-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "exit" .f32 0xC2F00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v14) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S1x8192x8x128 : Shape := ⟨4, ![1, 8192, 8, 128]⟩
abbrev S8192x1024 : Shape := ⟨2, ![8192, 1024]⟩
abbrev S_ : Shape := ⟨0, ![]⟩
abbrev S256x512 : Shape := ⟨2, ![256, 512]⟩
abbrev S8192x512 : Shape := ⟨2, ![8192, 512]⟩
abbrev S4x256x128 : Shape := ⟨3, ![4, 256, 128]⟩
abbrev S128x256 : Shape := ⟨2, ![128, 256]⟩
abbrev S256x128 : Shape := ⟨2, ![256, 128]⟩
abbrev S128x128 : Shape := ⟨2, ![128, 128]⟩
abbrev S256x256 : Shape := ⟨2, ![256, 256]⟩
abbrev S1x256x128 : Shape := ⟨3, ![1, 256, 128]⟩
abbrev S1x4x256x128 : Shape := ⟨4, ![1, 4, 256, 128]⟩
abbrev S1 : Shape := ⟨1, ![1]⟩
abbrev S1x1x1x1 : Shape := ⟨4, ![1, 1, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S256x512, .bf16⟩
  | .local _ .vmem, ⟨7, _⟩ => ⟨S256x512, .bf16⟩
  | .local _ .vmem, ⟨8, _⟩ => ⟨S4x256x128, .f32⟩
  | .local _ .vmem, ⟨9, _⟩ => ⟨S4x256x128, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v20 : BitVec 32 := Scalar.muli arg1 c256_i32
  let c128_i32_8 : BitVec 32 := 128#32
  let v21 : BitVec 32 := Scalar.addi v20 c128_i32_8
  v21
def k0_off1 (i : grid0.Coords) (c128_i32_8 : BitVec 32) : Fin 2 → Nat :=
  let arg1 : BitVec 32 := BitVec.ofNat 32 (i 1).val
  let c256_i32 : BitVec 32 := 256#32
  let v20 : BitVec 32 := Scalar.muli arg1 c256_i32
  let v21 : BitVec 32 := Scalar.addi v20 c128_i32_8
  let v22 : BitVec 32 := v21
  let v34 : Index := Scalar.indexCast v22
  let c0_15 : Index := 0#32
  ![v34.toNat, 0]
def k0_off2 (i : grid0.Coords) (c128_i32_8 : BitVec 32) : Fin 2 → Nat :=
  let arg1 : BitVec 32 := BitVec.ofNat 32 (i 1).val
  let c256_i32 : BitVec 32 := 256#32
  let v20 : BitVec 32 := Scalar.muli arg1 c256_i32
  let v21 : BitVec 32 := Scalar.addi v20 c128_i32_8
  let v22 : BitVec 32 := v21
  let v37 : Index := Scalar.indexCast v22
  let c128_16 : Index := 128#32
  ![v37.toNat, 128]
def k0_off3 (i : grid0.Coords) (c128_i32_8 : BitVec 32) : Fin 2 → Nat :=
  let arg1 : BitVec 32 := BitVec.ofNat 32 (i 1).val
  let c256_i32 : BitVec 32 := 256#32
  let v20 : BitVec 32 := Scalar.muli arg1 c256_i32
  let v21 : BitVec 32 := Scalar.addi v20 c128_i32_8
  let v22 : BitVec 32 := v21
  let v40 : Index := Scalar.indexCast v22
  let c256_17 : Index := 256#32
  ![v40.toNat, 256]
def k0_off4 (i : grid0.Coords) (c128_i32_8 : BitVec 32) : Fin 2 → Nat :=
  let arg1 : BitVec 32 := BitVec.ofNat 32 (i 1).val
  let c256_i32 : BitVec 32 := 256#32
  let v20 : BitVec 32 := Scalar.muli arg1 c256_i32
  let v21 : BitVec 32 := Scalar.addi v20 c128_i32_8
  let v22 : BitVec 32 := v21
  let v43 : Index := Scalar.indexCast v22
  let c384_18 : Index := 384#32
  ![v43.toNat, 384]
def k0_mult2 (i : grid0.Coords) : BitVec 32 :=
  let arg1 : BitVec 32 := BitVec.ofNat 32 (i 1).val
  let c256_i32_108 : BitVec 32 := 256#32
  let v234 : BitVec 32 := Scalar.muli arg1 c256_i32_108
  let c0_i32 : BitVec 32 := 0#32
  let v235 : BitVec 32 := Scalar.addi v234 c0_i32
  v235
def k0_mult3 (arg8 : BitVec 32) : BitVec 32 :=
  let c128_i32_239 : BitVec 32 := 128#32
  let v474 : BitVec 32 := Scalar.muli arg8 c128_i32_239
  v474

def k0_off5 (arg8 : BitVec 32) : Fin 2 → Nat :=
  let c128_i32_239 : BitVec 32 := 128#32
  let v474 : BitVec 32 := Scalar.muli arg8 c128_i32_239
  let v475 : BitVec 32 := v474
  let v484 : Index := Scalar.indexCast v475
  let c0_248 : Index := 0#32
  ![v484.toNat, 0]
def k0_off6 (arg8 : BitVec 32) : Fin 2 → Nat :=
  let c128_i32_239 : BitVec 32 := 128#32
  let v474 : BitVec 32 := Scalar.muli arg8 c128_i32_239
  let v475 : BitVec 32 := v474
  let v487 : Index := Scalar.indexCast v475
  let c128_249 : Index := 128#32
  ![v487.toNat, 128]
def k0_off7 (arg8 : BitVec 32) : Fin 2 → Nat :=
  let c128_i32_239 : BitVec 32 := 128#32
  let v474 : BitVec 32 := Scalar.muli arg8 c128_i32_239
  let v475 : BitVec 32 := v474
  let v490 : Index := Scalar.indexCast v475
  let c256_250 : Index := 256#32
  ![v490.toNat, 256]
def k0_off8 (arg8 : BitVec 32) : Fin 2 → Nat :=
  let c128_i32_239 : BitVec 32 := 128#32
  let v474 : BitVec 32 := Scalar.muli arg8 c128_i32_239
  let v475 : BitVec 32 := v474
  let v493 : Index := Scalar.indexCast v475
  let c384_251 : Index := 384#32
  ![v493.toNat, 384]

def k0_chk1 (arg8 : BitVec 32) : Prop :=
  (128 ∣ (k0_mult3 arg8).toNat) ∧
  (∀ a, (k0_off5 arg8) a + S128x128.size a ≤ S8192x512.size a) ∧
  (∀ a, (k0_off6 arg8) a + S128x128.size a ≤ S8192x512.size a) ∧
  (∀ a, (k0_off7 arg8) a + S128x128.size a ≤ S8192x512.size a) ∧
  (∀ a, (k0_off8 arg8) a + S128x128.size a ≤ S8192x512.size a)
theorem k0_mult3_dvd : ∀ (arg8 : BitVec 32) (k0_hw1 : k0_chk1 arg8), 128 ∣ (k0_mult3 arg8).toNat := fun arg8 k0_hw1 => k0_hw1.1
theorem k0_off5_inb : ∀ (arg8 : BitVec 32) (k0_hw1 : k0_chk1 arg8), ∀ a, (k0_off5 arg8) a + S128x128.size a ≤ S8192x512.size a := fun arg8 k0_hw1 => k0_hw1.2.1
theorem k0_off6_inb : ∀ (arg8 : BitVec 32) (k0_hw1 : k0_chk1 arg8), ∀ a, (k0_off6 arg8) a + S128x128.size a ≤ S8192x512.size a := fun arg8 k0_hw1 => k0_hw1.2.2.1
theorem k0_off7_inb : ∀ (arg8 : BitVec 32) (k0_hw1 : k0_chk1 arg8), ∀ a, (k0_off7 arg8) a + S128x128.size a ≤ S8192x512.size a := fun arg8 k0_hw1 => k0_hw1.2.2.2.1
theorem k0_off8_inb : ∀ (arg8 : BitVec 32) (k0_hw1 : k0_chk1 arg8), ∀ a, (k0_off8 arg8) a + S128x128.size a ≤ S8192x512.size a := fun arg8 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "exit" => some ⊥
  | _ => none
-- ==== ReferenceIdeal.lean ====
abbrev S1x8192x8x128 : Shape := ⟨4, ![1, 8192, 8, 128]⟩
abbrev S8192 : Shape := ⟨1, ![8192]⟩
abbrev S1x8x8192x8192 : Shape := ⟨4, ![1, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x128x8192 : Shape := ⟨4, ![1, 8, 128, 8192]⟩
abbrev S8192x1024 : Shape := ⟨2, ![8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x8x128, .f32⟩
  | .hbm, ⟨2, _⟩ => ⟨S1x8192x8x128, .f32⟩
  | .hbm, ⟨3, _⟩ => ⟨S8192, .i32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x1x8192x8192, .i1⟩
  | .hbm, ⟨14, _⟩ => ⟨S1x8x8192x8192, .f32⟩
  | .hbm, ⟨15, _⟩ => ⟨S_, .f32⟩
  | .hbm, ⟨16, _⟩ => ⟨S1x8x8192x8192, .f32⟩
  | .hbm, ⟨17, _⟩ => ⟨S1x8x8192x8192, .f32⟩
  | .hbm, ⟨18, _⟩ => ⟨S1x8x8192x8192, .f32⟩
  | .hbm, ⟨19, _⟩ => ⟨S1x8x8192x8192, .f32⟩
  | .hbm, ⟨20, _⟩ => ⟨S1x8x8192x8192, .i1⟩
  | .hbm, ⟨21, _⟩ => ⟨S1x8x8192x8192, .f32⟩
  | .hbm, ⟨22, _⟩ => ⟨S1x8x8192x8192, .f32⟩
  | .hbm, ⟨23, _⟩ => ⟨S1x8x8192x8192, .f32⟩
  | .hbm, ⟨24, _⟩ => ⟨S1x8x8192x8192, .f32⟩
  | .hbm, ⟨25, _⟩ => ⟨S1x8x8192x8192, .f32⟩
  | .hbm, ⟨26, _⟩ => ⟨S1x8x8192x8192, .f32⟩
  | .hbm, ⟨27, _⟩ => ⟨S1x8x8192x8192, .f32⟩
  | .hbm, ⟨28, _⟩ => ⟨S1x8x8192x8192, .f32⟩
  | .hbm, ⟨29, _⟩ => ⟨S1x8x8192x8192, .f32⟩
  | .hbm, ⟨30, _⟩ => ⟨S_, .f32⟩
  | .hbm, ⟨31, _⟩ => ⟨S_, .f32⟩
  | .hbm, ⟨32, _⟩ => ⟨S1x8x8192x8192, .i1⟩
  | .hbm, ⟨33, _⟩ => ⟨S1x8x8192x8192, .f32⟩
  | .hbm, ⟨34, _⟩ => ⟨S1x8x8192x8192, .f32⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S1x8x8192x8192, .f32⟩
  | .hbm, ⟨39, _⟩ => ⟨S1x8x8192x8192, .f32⟩
  | .hbm, ⟨40, _⟩ => ⟨S1x8x8192x8192, .f32⟩
  | .hbm, ⟨41, _⟩ => ⟨S1x8x8192x8192, .f32⟩
  | .hbm, ⟨42, _⟩ => ⟨S1x8x8192x8192, .i1⟩
  | .hbm, ⟨43, _⟩ => ⟨S1x8x8192x8192, .f32⟩
  | .hbm, ⟨44, _⟩ => ⟨S1x8x8192x8192, .f32⟩
  | .hbm, ⟨45, _⟩ => ⟨S1x8x8192x8192, .f32⟩
  | .hbm, ⟨46, _⟩ => ⟨S1x8x8192x8192, .f32⟩
  | .hbm, ⟨47, _⟩ => ⟨S1x8x8192x8192, .f32⟩
  | .hbm, ⟨48, _⟩ => ⟨S1x8x8192x8192, .f32⟩
  | .hbm, ⟨49, _⟩ => ⟨S1x8x8192x8192, .f32⟩
  | .hbm, ⟨50, _⟩ => ⟨S1x8x8192x8192, .f32⟩
  | .hbm, ⟨51, _⟩ => ⟨S1x8x8192x8192, .f32⟩
  | .hbm, ⟨52, _⟩ => ⟨S_, .f32⟩
  | .hbm, ⟨53, _⟩ => ⟨S_, .f32⟩
  | .hbm, ⟨54, _⟩ => ⟨S1x8x8192x8192, .i1⟩
  | .hbm, ⟨55, _⟩ => ⟨S1x8x8192x8192, .f32⟩
  | .hbm, ⟨56, _⟩ => ⟨S1x8x8192x8192, .f32⟩
  | .hbm, ⟨57, _⟩ => ⟨S_, .f32⟩
  | .hbm, ⟨58, _⟩ => ⟨S_, .f32⟩
  | .hbm, ⟨59, _⟩ => ⟨S1x8x8192x8192, .f32⟩
  | .hbm, ⟨60, _⟩ => ⟨S1x8x8192x8192, .f32⟩
  | .hbm, ⟨61, _⟩ => ⟨S1x8x8192x8192, .f32⟩
  | .hbm, ⟨62, _⟩ => ⟨S1x8x8192x8192, .f32⟩
  | .hbm, ⟨63, _⟩ => ⟨S1x8x128x8192, .f32⟩
  | .hbm, ⟨64, _⟩ => ⟨S1x8192x8x128, .f32⟩
  | .hbm, ⟨65, _⟩ => ⟨S8192x1024, .f32⟩
  | .hbm, ⟨66, _⟩ => ⟨S8192x1024, .bf16⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_v12 : Ref sig .tc := ⟨.hbm, 35, rfl⟩
abbrev main_call2_v0 : Ref sig .tc := ⟨.hbm, 36, rfl⟩
abbrev main_call2_call0_cst : Ref sig .tc := ⟨.hbm, 37, rfl⟩
abbrev main_call2_call0_v0 : Ref sig .tc := ⟨.hbm, 38, rfl⟩
abbrev main_call2_call0_v1 : Ref sig .tc := ⟨.hbm, 39, rfl⟩
abbrev main_call2_call0_v2 : Ref sig .tc := ⟨.hbm, 40, rfl⟩
abbrev main_call2_call0_v3 : Ref sig .tc := ⟨.hbm, 41, rfl⟩
abbrev main_call2_call0_v4 : Ref sig .tc := ⟨.hbm, 42, rfl⟩
abbrev main_call2_call0_v5 : Ref sig .tc := ⟨.hbm, 43, rfl⟩
abbrev main_call2_call0_v6 : Ref sig .tc := ⟨.hbm, 44, rfl⟩
abbrev main_call2_call0_v7 : Ref sig .tc := ⟨.hbm, 45, rfl⟩
abbrev main_call2_call0_v8 : Ref sig .tc := ⟨.hbm, 46, rfl⟩
abbrev main_call2_call0_v9 : Ref sig .tc := ⟨.hbm, 47, rfl⟩
abbrev main_call2_call0_v10 : Ref sig .tc := ⟨.hbm, 48, rfl⟩
abbrev main_call2_call0_v11 : Ref sig .tc := ⟨.hbm, 49, rfl⟩
abbrev main_call2_v1 : Ref sig .tc := ⟨.hbm, 50, rfl⟩
abbrev main_v13 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v14 : Ref sig .tc := ⟨.hbm, 56, rfl⟩
abbrev main_call4_cst : Ref sig .tc := ⟨.hbm, 57, rfl⟩
abbrev main_call4_v0 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩

abbrev nD : Nat := 1
abbrev τ : Topo := Topo.v7x

variable {F : FTy → Type} [FloatOps F]
-- ==== Kernel2.lean ====
abbrev S1x8192x2048 : Shape := ⟨3, ![1, 8192, 2048]⟩
abbrev S2048x5504 : Shape := ⟨2, ![2048, 5504]⟩
abbrev S3x5504 : Shape := ⟨2, ![3, 5504]⟩
abbrev S5504 : Shape := ⟨1, ![5504]⟩
abbrev S5504x2048 : Shape := ⟨2, ![5504, 2048]⟩
abbrev S2048 : Shape := ⟨1, ![2048]⟩
abbrev S_ : Shape := ⟨0, ![]⟩
abbrev S2048x5632 : Shape := ⟨2, ![2048, 5632]⟩
abbrev S5632x2048 : Shape := ⟨2, ![5632, 2048]⟩
abbrev S3x5632 : Shape := ⟨2, ![3, 5632]⟩
abbrev S5632 : Shape := ⟨1, ![5632]⟩
abbrev S8192x2048 : Shape := ⟨2, ![8192, 2048]⟩
abbrev S1x5632 : Shape := ⟨2, ![1, 5632]⟩
abbrev S1x2048 : Shape := ⟨2, ![1, 2048]⟩
abbrev S128x5632 : Shape := ⟨2, ![128, 5632]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S8x512 : Shape := ⟨2, ![8, 512]⟩
abbrev S512x512 : Shape := ⟨2, ![512, 512]⟩
abbrev S16x512 : Shape := ⟨2, ![16, 512]⟩
abbrev S504x512 : Shape := ⟨2, ![504, 512]⟩
abbrev S512 : Shape := ⟨1, ![512]⟩
abbrev S512x1 : Shape := ⟨2, ![512, 1]⟩
abbrev S2x5504 : Shape := ⟨2, ![2, 5504]⟩

abbrev nBuf : Space → Nat
  | .hbm => 34
  | .vmem => 22
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S2048x5504, .f32⟩
  | .hbm, ⟨3, _⟩ => ⟨S2048x5504, .f32⟩
  | .hbm, ⟨4, _⟩ => ⟨S3x5504, .f32⟩
  | .hbm, ⟨5, _⟩ => ⟨S5504, .f32⟩
  | .hbm, ⟨6, _⟩ => ⟨S5504x2048, .f32⟩
  | .hbm, ⟨7, _⟩ => ⟨S2048, .f32⟩
  | .hbm, ⟨8, _⟩ => ⟨S_, .i32⟩
  | .hbm, ⟨9, _⟩ => ⟨S_, .f32⟩
  | .hbm, ⟨10, _⟩ => ⟨S2048x5632, .f32⟩
  | .hbm, ⟨11, _⟩ => ⟨S2048x5632, .bf16⟩
  | .hbm, ⟨12, _⟩ => ⟨S_, .i32⟩
  | .hbm, ⟨13, _⟩ => ⟨S_, .f32⟩
  | .hbm, ⟨14, _⟩ => ⟨S2048x5632, .f32⟩
  | .hbm, ⟨15, _⟩ => ⟨S2048x5632, .bf16⟩
  | .hbm, ⟨16, _⟩ => ⟨S_, .i32⟩
  | .hbm, ⟨17, _⟩ => ⟨S_, .f32⟩
  | .hbm, ⟨18, _⟩ => ⟨S5632x2048, .f32⟩
  | .hbm, ⟨19, _⟩ => ⟨S5632x2048, .bf16⟩
  | .hbm, ⟨20, _⟩ => ⟨S_, .i32⟩
  | .hbm, ⟨21, _⟩ => ⟨S_, .f32⟩
  | .hbm, ⟨22, _⟩ => ⟨S3x5632, .f32⟩
  | .hbm, ⟨23, _⟩ => ⟨S_, .i32⟩
  | .hbm, ⟨24, _⟩ => ⟨S_, .f32⟩
  | .hbm, ⟨25, _⟩ => ⟨S5632, .f32⟩
  | .hbm, ⟨26, _⟩ => ⟨S8192x2048, .f32⟩
  | .hbm, ⟨27, _⟩ => ⟨S8192x2048, .bf16⟩
  | .hbm, ⟨28, _⟩ => ⟨S8192x2048, .f32⟩
  | .hbm, ⟨29, _⟩ => ⟨S1x5632, .f32⟩
  | .hbm, ⟨30, _⟩ => ⟨S1x2048, .f32⟩
  | .hbm, ⟨31, _⟩ => ⟨S8192x2048, .f32⟩
  | .hbm, ⟨32, _⟩ => ⟨S128x5632, .f32⟩
  | .hbm, ⟨33, _⟩ => ⟨S2x5504, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S512x2048, .f32⟩
  | .local _ .vmem, ⟨5, _⟩ => ⟨S512x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S8x512, .f32⟩
  | .local _ .vmem, ⟨20, _⟩ => ⟨S8x512, .f32⟩
  | .local _ .vmem, ⟨21, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_call3_v0 : Ref sig .tc := ⟨.hbm, 21, rfl⟩
abbrev main_v6 : Ref sig .tc := ⟨.hbm, 22, rfl⟩
abbrev main_c_3 : Ref sig .tc := ⟨.hbm, 23, rfl⟩
abbrev main_call4_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v75 : BitVec 1 := Scalar.cmpi .eq arg1 c10_i32
  let v76 : BitVec 32 := Scalar.extui v75
  let c0_i32_32 : BitVec 32 := 0#32
  let v77 : BitVec 1 := Scalar.cmpi .ne v76 c0_i32_32
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S1x8192x2048 : Shape := ⟨3, ![1, 8192, 2048]⟩
abbrev S2048x5504 : Shape := ⟨2, ![2048, 5504]⟩
abbrev S3x5504 : Shape := ⟨2, ![3, 5504]⟩
abbrev S5504 : Shape := ⟨1, ![5504]⟩
abbrev S5504x2048 : Shape := ⟨2, ![5504, 2048]⟩
abbrev S2048 : Shape := ⟨1, ![2048]⟩
abbrev S_ : Shape := ⟨0, ![]⟩
abbrev S1x2x5504 : Shape := ⟨3, ![1, 2, 5504]⟩
abbrev S1x8192x5504 : Shape := ⟨3, ![1, 8192, 5504]⟩
abbrev S1x8194x5504 : Shape := ⟨3, ![1, 8194, 5504]⟩
abbrev S1x5504 : Shape := ⟨2, ![1, 5504]⟩
abbrev S1x1x5504 : Shape := ⟨3, ![1, 1, 5504]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩
abbrev S2x5504 : Shape := ⟨2, ![2, 5504]⟩

abbrev nBuf : Space → Nat
  | .hbm => 67
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S2048x5504, .f32⟩
  | .hbm, ⟨3, _⟩ => ⟨S2048x5504, .f32⟩
  | .hbm, ⟨4, _⟩ => ⟨S3x5504, .f32⟩
  | .hbm, ⟨5, _⟩ => ⟨S5504, .f32⟩
  | .hbm, ⟨6, _⟩ => ⟨S5504x2048, .f32⟩
  | .hbm, ⟨7, _⟩ => ⟨S2048, .f32⟩
  | .hbm, ⟨8, _⟩ => ⟨S_, .f32⟩
  | .hbm, ⟨9, _⟩ => ⟨S1x2x5504, .f32⟩
  | .hbm, ⟨10, _⟩ => ⟨S1x8192x5504, .f32⟩
  | .hbm, ⟨11, _⟩ => ⟨S1x8192x5504, .f32⟩
  | .hbm, ⟨12, _⟩ => ⟨S1x8194x5504, .f32⟩
  | .hbm, ⟨13, _⟩ => ⟨S1x5504, .f32⟩
  | .hbm, ⟨14, _⟩ => ⟨S5504, .f32⟩
  | .hbm, ⟨15, _⟩ => ⟨S1x8192x5504, .f32⟩
  | .hbm, ⟨16, _⟩ => ⟨S1x1x5504, .f32⟩
  | .hbm, ⟨17, _⟩ => ⟨S1x8192x5504, .f32⟩
  | .hbm, ⟨18, _⟩ => ⟨S1x8192x5504, .f32⟩
  | .hbm, ⟨19, _⟩ => ⟨S1x1x5504, .f32⟩
  | .hbm, ⟨20, _⟩ => ⟨S1x8192x5504, .f32⟩
  | .hbm, ⟨21, _⟩ => ⟨S1x8192x5504, .f32⟩
  | .hbm, ⟨22, _⟩ => ⟨S1x5504, .f32⟩
  | .hbm, ⟨23, _⟩ => ⟨S5504, .f32⟩
  | .hbm, ⟨24, _⟩ => ⟨S1x8192x5504, .f32⟩
  | .hbm, ⟨25, _⟩ => ⟨S1x1x5504, .f32⟩
  | .hbm, ⟨26, _⟩ => ⟨S1x8192x5504, .f32⟩
  | .hbm, ⟨27, _⟩ => ⟨S1x8192x5504, .f32⟩
  | .hbm, ⟨28, _⟩ => ⟨S1x8192x5504, .f32⟩
  | .hbm, ⟨29, _⟩ => ⟨S1x5504, .f32⟩
  | .hbm, ⟨30, _⟩ => ⟨S5504, .f32⟩
  | .hbm, ⟨31, _⟩ => ⟨S1x8192x5504, .f32⟩
  | .hbm, ⟨32, _⟩ => ⟨S1x1x5504, .f32⟩
  | .hbm, ⟨33, _⟩ => ⟨S1x8192x5504, .f32⟩
  | .hbm, ⟨34, _⟩ => ⟨S1x8192x5504, .f32⟩
  | .hbm, ⟨35, _⟩ => ⟨S1x8192x5504, .f32⟩
  | .hbm, ⟨36, _⟩ => ⟨S1x8192x5504, .f32⟩
  | .hbm, ⟨37, _⟩ => ⟨S1x8192x5504, .f32⟩
  | .hbm, ⟨38, _⟩ => ⟨S_, .f32⟩
  | .hbm, ⟨39, _⟩ => ⟨S1x8192x5504, .f32⟩
  | .hbm, ⟨40, _⟩ => ⟨S1x8192x5504, .f32⟩
  | .hbm, ⟨41, _⟩ => ⟨S_, .f32⟩
  | .hbm, ⟨42, _⟩ => ⟨S1x8192x5504, .f32⟩
  | .hbm, ⟨43, _⟩ => ⟨S1x8192x5504, .f32⟩
  | .hbm, ⟨44, _⟩ => ⟨S1x8192x5504, .f32⟩
  | .hbm, ⟨45, _⟩ => ⟨S1x8192x5504, .f32⟩
  | .hbm, ⟨46, _⟩ => ⟨S1x8192x2048, .f32⟩
  | .hbm, ⟨47, _⟩ => ⟨S1x2x5504, .f32⟩
  | .hbm, ⟨48, _⟩ => ⟨S1x8192x2048, .f32⟩
  | .hbm, ⟨49, _⟩ => ⟨S1x8192x2048, .f32⟩
  | .hbm, ⟨50, _⟩ => ⟨S_, .f32⟩
  | .hbm, ⟨51, _⟩ => ⟨S1x8192, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S_, .f32⟩
  | .hbm, ⟨57, _⟩ => ⟨S1x8192x1, .f32⟩
  | .hbm, ⟨58, _⟩ => ⟨S1x8192x1, .f32⟩
  | .hbm, ⟨59, _⟩ => ⟨S1x8192x1, .f32⟩
  | .hbm, ⟨60, _⟩ => ⟨S1x8192x2048, .f32⟩
  | .hbm, ⟨61, _⟩ => ⟨S1x8192x2048, .f32⟩
  | .hbm, ⟨62, _⟩ => ⟨S1x1x2048, .f32⟩
  | .hbm, ⟨63, _⟩ => ⟨S1x8192x2048, .f32⟩
  | .hbm, ⟨64, _⟩ => ⟨S1x8192x2048, .f32⟩
  | .hbm, ⟨65, _⟩ => ⟨S8192x2048, .f32⟩
  | .hbm, ⟨66, _⟩ => ⟨S2x5504, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel3.lean ====
abbrev S1x8192x2048 : Shape := ⟨3, ![1, 8192, 2048]⟩
abbrev S2048 : Shape := ⟨1, ![2048]⟩
abbrev S2048x10240 : Shape := ⟨2, ![2048, 10240]⟩
abbrev S8192x2048 : Shape := ⟨2, ![8192, 2048]⟩
abbrev S1x2048 : Shape := ⟨2, ![1, 2048]⟩
abbrev S8192x1024 : Shape := ⟨2, ![8192, 1024]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S8192x4096 : Shape := ⟨2, ![8192, 4096]⟩
abbrev S2048x2048 : Shape := ⟨2, ![2048, 2048]⟩

abbrev nBuf : Space → Nat
  | .hbm => 9
  | .vmem => 14
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x10240, .f32⟩
  | .hbm, ⟨3, _⟩ => ⟨S2048x10240, .bf16⟩
  | .hbm, ⟨4, _⟩ => ⟨S8192x2048, .f32⟩
  | .hbm, ⟨5, _⟩ => ⟨S1x2048, .f32⟩
  | .hbm, ⟨6, _⟩ => ⟨S8192x1024, .bf16⟩
  | .hbm, ⟨7, _⟩ => ⟨S8192x2048, .bf16⟩
  | .hbm, ⟨8, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S2048x2048, .bf16⟩
  | .local _ .vmem, ⟨12, _⟩ => ⟨S512x2048, .bf16⟩
  | .local _ .vmem, ⟨13, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference3Ideal.lean ====
abbrev S1x8192x2048 : Shape := ⟨3, ![1, 8192, 2048]⟩
abbrev S2048 : Shape := ⟨1, ![2048]⟩
abbrev S2048x10240 : Shape := ⟨2, ![2048, 10240]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x10240 : Shape := ⟨3, ![1, 8192, 10240]⟩
abbrev S1x8192x1024 : Shape := ⟨3, ![1, 8192, 1024]⟩
abbrev S8192x1024 : Shape := ⟨2, ![8192, 1024]⟩
abbrev S1x8192x4096 : Shape := ⟨3, ![1, 8192, 4096]⟩
abbrev S8192x4096 : Shape := ⟨2, ![8192, 4096]⟩

abbrev nBuf : Space → Nat
  | .hbm => 52
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x10240, .f32⟩
  | .hbm, ⟨3, _⟩ => ⟨S1x8192x2048, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x2048, .f32⟩
  | .hbm, ⟨15, _⟩ => ⟨S1x8192x2048, .f32⟩
  | .hbm, ⟨16, _⟩ => ⟨S1x1x2048, .f32⟩
  | .hbm, ⟨17, _⟩ => ⟨S1x8192x2048, .f32⟩
  | .hbm, ⟨18, _⟩ => ⟨S1x8192x2048, .f32⟩
  | .hbm, ⟨19, _⟩ => ⟨S1x8192x10240, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S1x8192x2048, .f32⟩
  | .hbm, ⟨30, _⟩ => ⟨S_, .f32⟩
  | .hbm, ⟨31, _⟩ => ⟨S1x8192x2048, .f32⟩
  | .hbm, ⟨32, _⟩ => ⟨S1x8192x2048, .f32⟩
  | .hbm, ⟨33, _⟩ => ⟨S_, .f32⟩
  | .hbm, ⟨34, _⟩ => ⟨S1x8192x2048, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S_, .f32⟩
  | .hbm, ⟨39, _⟩ => ⟨S1x8192x2048, .f32⟩
  | .hbm, ⟨40, _⟩ => ⟨S1x8192x2048, .f32⟩
  | .hbm, ⟨41, _⟩ => ⟨S_, .f32⟩
  | .hbm, ⟨42, _⟩ => ⟨S1x8192x2048, .f32⟩
  | .hbm, ⟨43, _⟩ => ⟨S1x8192x2048, .f32⟩
  | .hbm, ⟨44, _⟩ => ⟨S_, .f32⟩
  | .hbm, ⟨45, _⟩ => ⟨S1x8192x1024, .f32⟩
  | .hbm, ⟨46, _⟩ => ⟨S1x8192x1024, .f32⟩
  | .hbm, ⟨47, _⟩ => ⟨S1x8192x1024, .bf16⟩
  | .hbm, ⟨48, _⟩ => ⟨S8192x1024, .bf16⟩
  | .hbm, ⟨49, _⟩ => ⟨S1x8192x4096, .f32⟩
  | .hbm, ⟨50, _⟩ => ⟨S1x8192x4096, .bf16⟩
  | .hbm, ⟨51, _⟩ => ⟨S8192x4096, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel4.lean ====
abbrev S1x256x2048 : Shape := ⟨3, ![1, 256, 2048]⟩
abbrev S2048 : Shape := ⟨1, ![2048]⟩
abbrev S2048x512 : Shape := ⟨2, ![2048, 512]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S256x512 : Shape := ⟨2, ![256, 512]⟩

abbrev nBuf : Space → Nat
  | .hbm => 11
  | .vmem => 9
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S256x2048, .f32⟩
  | .hbm, ⟨5, _⟩ => ⟨S1x2048, .f32⟩
  | .hbm, ⟨6, _⟩ => ⟨S256x2048, .bf16⟩
  | .hbm, ⟨7, _⟩ => ⟨S2048x512, .bf16⟩
  | .hbm, ⟨8, _⟩ => ⟨S256x512, .f32⟩
  | .hbm, ⟨9, _⟩ => ⟨S2048x512, .bf16⟩
  | .hbm, ⟨10, _⟩ => ⟨S256x512, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x2048, .bf16⟩
  | .local _ .vmem, ⟨4, _⟩ => ⟨S2048x512, .bf16⟩
  | .local _ .vmem, ⟨5, _⟩ => ⟨S256x512, .f32⟩
  | .local _ .vmem, ⟨6, _⟩ => ⟨S256x2048, .bf16⟩
  | .local _ .vmem, ⟨7, _⟩ => ⟨S2048x512, .bf16⟩
  | .local _ .vmem, ⟨8, _⟩ => ⟨S256x512, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]
-- ==== Reference4Ideal.lean ====
abbrev S1x256x2048 : Shape := ⟨3, ![1, 256, 2048]⟩
abbrev S2048 : Shape := ⟨1, ![2048]⟩
abbrev S2048x512 : Shape := ⟨2, ![2048, 512]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S1x256x512 : Shape := ⟨3, ![1, 256, 512]⟩
abbrev S256x512 : Shape := ⟨2, ![256, 512]⟩

abbrev nBuf : Space → Nat
  | .hbm => 24
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S1x256x2048, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x2048, .f32⟩
  | .hbm, ⟨16, _⟩ => ⟨S1x256x2048, .f32⟩
  | .hbm, ⟨17, _⟩ => ⟨S1x1x2048, .f32⟩
  | .hbm, ⟨18, _⟩ => ⟨S1x256x2048, .f32⟩
  | .hbm, ⟨19, _⟩ => ⟨S1x256x2048, .f32⟩
  | .hbm, ⟨20, _⟩ => ⟨S1x256x512, .f32⟩
  | .hbm, ⟨21, _⟩ => ⟨S256x512, .f32⟩
  | .hbm, ⟨22, _⟩ => ⟨S1x256x512, .f32⟩
  | .hbm, ⟨23, _⟩ => ⟨S256x512, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S8192x512 : Shape := ⟨2, ![8192, 512]⟩
abbrev S512x2048 : Shape := ⟨2, ![512, 2048]⟩
abbrev S512x512 : Shape := ⟨2, ![512, 512]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x512, .f32⟩
  | .hbm, ⟨9, _⟩ => ⟨S8192x1024, .bf16⟩
  | .hbm, ⟨10, _⟩ => ⟨S8192x1024, .bf16⟩
  | .hbm, ⟨11, _⟩ => ⟨S8192x4096, .bf16⟩
  | .hbm, ⟨12, _⟩ => ⟨S1024x2048, .bf16⟩
  | .hbm, ⟨13, _⟩ => ⟨S1024x2048, .bf16⟩
  | .hbm, ⟨14, _⟩ => ⟨S2048x2048, .bf16⟩
  | .hbm, ⟨15, _⟩ => ⟨S1x2048, .f32⟩
  | .hbm, ⟨16, _⟩ => ⟨S8192x2048, .f32⟩
  | .hbm, ⟨17, _⟩ => ⟨S8192x2048, .bf16⟩
  | .hbm, ⟨18, _⟩ => ⟨S2048x512, .bf16⟩
  | .hbm, ⟨19, _⟩ => ⟨S8192x512, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S512x2048, .bf16⟩
  | .local _ .vmem, ⟨19, _⟩ => ⟨S512x2048, .bf16⟩
  | .local _ .vmem, ⟨20, _⟩ => ⟨S2048x512, .bf16⟩
  | .local _ .vmem, ⟨21, _⟩ => ⟨S512x512, .bf16⟩
  | .local _ .vmem, ⟨22, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference5Ideal.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x512 : Shape := ⟨2, ![8192, 512]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x512, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.SB.Spec.lean ====
/-
  The stick-breaking attention kernel as a function of its blocks, over any float instance: what one chunk of 128 keys
  does to one head's accumulator and running log weight, the same over the four heads a grid point holds, and the
  walk over the chunks with its early exit.
-/
module

public import proofs.«01_k».proof.KernelIdeal
public import proofs.«01_k».proof.Proof.Gen.KernelIdeal
public import Idealize.ShloMosaic.Lib.ValueIdxCore

@[expose] public section

noncomputable section

namespace Cert.Proof.SB

open Cert.KernelIdeal Cert.KernelIdeal.Gen
open Idealize.ShloMosaic Idealize.ShloMosaic.ValueIdx

variable {F : FTy → Type} [FloatOps F] [Named F]

/-- The accumulator and the running log weight of the four heads of a grid point. -/
structure St (F : FTy → Type) where
  acc : Fin 4 → FVec F S256x128 .f32
  c : Fin 4 → FVec F S256x128 .f32

/-- Head `h`'s queries in the query block. -/
def qh (Q : Vec F S256x512 .bf16) (h : Fin 4) : FVec F S256x128 .bf16 :=
  fun x => Q (ix2 (n0 := 256) (n1 := 512) ⟨(x 0).val, (x 0).isLt⟩ ⟨128 * h.val + (x 1).val, by have h1 := (x 1).isLt; have h2 : (x 1).val < 128 := h1; omega⟩)

/-- Head `h`'s keys (or values) of chunk `n`. -/
def kh (K : Vec F S8192x512 .bf16) (n : ℕ) (h : Fin 4) : FVec F S128x128 .bf16 :=
  fun x => K (ix2 (n0 := 8192) (n1 := 512) ⟨(128 * n + (x 0).val) % 8192, Nat.mod_lt _ (by decide)⟩ ⟨128 * h.val + (x 1).val, by have h1 := (x 1).isLt; have h2 : (x 1).val < 128 := h1; omega⟩)

/-- The four heads' vectors laid on top of each other. -/
def stack (f : Fin 4 → FVec F S256x128 .f32) : Vec F S4x256x128 .f32 :=
  fun y => f (y 0) (ix2 (n0 := 256) (n1 := 128) (y 1) (y 2))

/-- The logits of a chunk. -/
def zOf (q : FVec F S256x128 .bf16) (k : FVec F S128x128 .bf16) : FVec F S256x128 .f32 :=
  matmul dot_S256x128_S128x128_S256x128_1_1_0_0_n_n none q k (constant S256x128 .f32 0x00000000#32)

abbrev zero2 : FVec F S256x128 .f32 := broadcast S256x128 (Scalar.ofBits .f32 0x00000000#32)
abbrev one2 : FVec F S256x128 .f32 := broadcast S256x128 (Scalar.ofBits .f32 0x3F800000#32)

/-- The log of the weight a key leaves to the earlier ones. -/
def lkOf (z : FVec F S256x128 .f32) : FVec F S256x128 .f32 :=
  subf zero2 (addf (maximumf z zero2) (log (addf one2 (exp (subf zero2 (absf z))))))

/-- The strict suffix sums within the chunk (lanes below 128) and the chunk's total (lanes from 128 on). -/
def csOf (u : FVec F S128x256 .bf16) (lk : FVec F S256x128 .f32) : FVec F S256x256 .f32 :=
  addf
    (matmul dot_S256x128_S128x256_S256x256_1_0_0_1_n_n none (truncf .bf16 lk bitsLt_bf16_f32) u (constant S256x256 .f32 0x00000000#32))
    (matmul dot_S256x128_S128x256_S256x256_1_0_0_1_n_n none
      (truncf .bf16 (subf lk (extf .f32 (truncf .bf16 lk bitsLt_bf16_f32) bitsLt_bf16_f32)) bitsLt_bf16_f32) u
      (constant S256x256 .f32 0x00000000#32))

/-- The unmasked weights. -/
def eOf (u : FVec F S128x256 .bf16) (z lk c : FVec F S256x128 .f32) : FVec F S256x128 .f32 :=
  exp (addf (addf (addf z lk) (extractStridedSlice S256x128 ![0, 0] (csOf u lk) slices_S256x256_o0_0_S256x128)) c)

/-- The running log weight after the chunk. -/
def cNew (u : FVec F S128x256 .bf16) (lk c : FVec F S256x128 .f32) : FVec F S256x128 .f32 :=
  addf c (extractStridedSlice S256x128 ![0, 128] (csOf u lk) slices_S256x256_o0_128_S256x128)

/-- The accumulator after the chunk. -/
def accNew (a : FVec F S256x128 .bf16) (v : FVec F S128x128 .bf16) (acc : FVec F S256x128 .f32) : FVec F S256x128 .f32 :=
  addf acc (matmul dot_S256x128_S128x128_S256x128_1_0_0_1_n_n none a v (constant S256x128 .f32 0x00000000#32))

/-- The triangle of ones beside a block of ones. -/
def u2 : FVec F S128x256 .bf16 :=
  truncf .bf16
    (select (ori (cmpi .sgt (iota .tc S128x256 32 [0] iota_S128x256_d0_w32) (iota .tc S128x256 32 [1] iota_S128x256_d1_w32))
        (cmpi .sge (iota .tc S128x256 32 [1] iota_S128x256_d1_w32) (broadcast S128x256 128#32)))
      (broadcast S128x256 (Scalar.ofBits .f32 0x3F800000#32)) (broadcast S128x256 (Scalar.ofBits .f32 0x00000000#32)))
    bitsLt_bf16_f32

/-- Which keys of diagonal chunk `d` (128 · d keys into the query block) a query sees. -/
def maskD (d : BitVec 32) : IVec S256x128 1 :=
  cmpi .slt (addi (iota .tc S256x128 32 [1] iota_S256x128_d1_w32) (broadcast S256x128 d)) (iota .tc S256x128 32 [0] iota_S256x128_d0_w32)

/-- A chunk that lies wholly before the query block. -/
def step (u : FVec F S128x256 .bf16) (Q : Vec F S256x512 .bf16) (K V : Vec F S8192x512 .bf16) (n : ℕ) (σ : St F) : St F where
  acc h := accNew (truncf .bf16 (eOf u (zOf (qh Q h) (kh K n h)) (lkOf (zOf (qh Q h) (kh K n h))) (σ.c h)) bitsLt_bf16_f32) (kh V n h) (σ.acc h)
  c h := cNew u (lkOf (zOf (qh Q h) (kh K n h))) (σ.c h)

/-- A chunk inside the query block, under its mask. -/
def stepD (mask : IVec S256x128 1) (u : FVec F S128x256 .bf16) (Q : Vec F S256x512 .bf16) (K V : Vec F S8192x512 .bf16) (n : ℕ) (σ : St F) : St F where
  acc h := accNew (truncf .bf16 (select mask (eOf u (zOf (qh Q h) (kh K n h)) (select mask (lkOf (zOf (qh Q h) (kh K n h))) zero2) (σ.c h)) zero2) bitsLt_bf16_f32)
    (kh V n h) (σ.acc h)
  c h := cNew u (select mask (lkOf (zOf (qh Q h) (kh K n h))) zero2) (σ.c h)

/-- The largest running log weight of the four heads. -/
def top (c : Vec F S4x256x128 .f32) : F .f32 :=
  extractAt ![0, 0, 0, 0]
    (shapeCast S1x1x1x1
      (multiReduction .maximumf [1, 2, 3] S1 (shapeCast S1x4x256x128 c shapeCasts_S4x256x128_S1x4x256x128) 0xFF800000#32
        reduces_S1x4x256x128_S1 (.inl rfl) rfl)
      shapeCasts_S1_S1x1x1x1)
    inpos_S1x1x1x1_p0_0_0_0

/-- The word the loop tests: some weight is left to give. -/
def flag (c : Fin 4 → FVec F S256x128 .f32) : BitVec 32 :=
  Scalar.extui (Scalar.cmpf .ogt (top (stack c)) (Named.named κ "exit" 0xC2F00000#32 : F .f32))

/-- The walk over the chunks `n - 1, …, 0`, stopped once no weight is left. -/
def loopF (u : FVec F S128x256 .bf16) (Q : Vec F S256x512 .bf16) (K V : Vec F S8192x512 .bf16) : ℕ → St F → St F
  | 0, σ => σ
  | n + 1, σ => if Scalar.cmpi .sgt (flag σ.c) 0#32 = 1#1 then loopF u Q K V n (step u Q K V n σ) else σ

/-- The start: nothing accumulated, full weight. -/
def σ0 : St F where
  acc _ := zero2
  c _ := zero2

/-- The query block `i` from its queries and all keys and values. -/
def final (Q : Vec F S256x512 .bf16) (K V : Vec F S8192x512 .bf16) (i : ℕ) : St F :=
  loopF u2 Q K V (2 * i)
    (stepD (maskD 0#32) u2 Q K V (2 * i) (stepD (maskD 128#32) u2 Q K V (2 * i + 1) σ0))

/-- The result's block: head `h`'s accumulator at lanes `128 h`. -/
def outBlk (Q : Vec F S256x512 .bf16) (K V : Vec F S8192x512 .bf16) (i : ℕ) : Vec F S256x512 .bf16 :=
  fun x => truncf .bf16 ((final Q K V i).acc ⟨(x 1).val / 128, by have h1 := (x 1).isLt; have h2 : (x 1).val < 512 := h1; omega⟩) bitsLt_bf16_f32
    (ix2 (n0 := 256) (n1 := 128) (x 0) ⟨(x 1).val % 128, Nat.mod_lt _ (by decide)⟩)

end Cert.Proof.SB

end
-- ==== Proof.SB.Common.lean ====
/-
  What the runs of the kernel body share: the resource algebra, the loop's variants, the words and offsets of the loop's
  counter, and what the loads and stores of one head's slice of a buffer read and leave.
-/
module

public import proofs.«01_k».proof.Proof.SB.Spec
public import Idealize.ShloMosaic.Lib.Pipeline.Sound
public import Idealize.ShloMosaic.Lib.Pipeline.Frame
public import Idealize.ShloMosaic.Lib.Pipeline.Value
public import proofs.«01_k».proof.Proof.Gen.KernelIdeal.Skeleton

@[expose] public section

set_option maxRecDepth 16384

noncomputable section

namespace Cert.Proof.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The variants: the chunks left to walk. -/
abbrev 𝒱₀ : Variants := Variants.nat

/-! ## The counter -/

theorem off5 (n : Fin 64) : k0_off5 (BitVec.ofNat 32 n.val) = ![128 * n.val, 0] := by
  revert n; decide +kernel
theorem off6 (n : Fin 64) : k0_off6 (BitVec.ofNat 32 n.val) = ![128 * n.val, 128] := by
  revert n; decide +kernel
theorem off7 (n : Fin 64) : k0_off7 (BitVec.ofNat 32 n.val) = ![128 * n.val, 256] := by
  revert n; decide +kernel
theorem off8 (n : Fin 64) : k0_off8 (BitVec.ofNat 32 n.val) = ![128 * n.val, 384] := by
  revert n; decide +kernel
instance (n : Fin 64) : ClosedOff (k0_off5 (BitVec.ofNat 32 n.val)) := ⟨_, off5 n⟩
instance (n : Fin 64) : ClosedOff (k0_off6 (BitVec.ofNat 32 n.val)) := ⟨_, off6 n⟩
instance (n : Fin 64) : ClosedOff (k0_off7 (BitVec.ofNat 32 n.val)) := ⟨_, off7 n⟩
instance (n : Fin 64) : ClosedOff (k0_off8 (BitVec.ofNat 32 n.val)) := ⟨_, off8 n⟩
theorem chk (n : Fin 64) : k0_chk1 (BitVec.ofNat 32 n.val) := by revert n; decide +kernel
theorem sge_nat (n : Fin 64) : Scalar.cmpi .sge (BitVec.ofNat 32 n.val) 0#32 = 1#1 := by revert n; decide +kernel
theorem subi_succ (n : Fin 64) : Scalar.subi (BitVec.ofNat 32 (n.val + 1)) 1#32 = BitVec.ofNat 32 n.val := by revert n; decide +kernel
theorem stop0 : ∀ b : BitVec 1, ¬ Scalar.andi (Scalar.cmpi .sge (Scalar.subi (BitVec.ofNat 32 0) 1#32) 0#32) b = 1#1 := by decide
theorem andi_one : ∀ b : BitVec 1, Scalar.andi 1#1 b = b := by decide

/-! ## One head's slice -/

/-- The rectangle of head `h`. -/
theorem readQ {sp : Space} (m : Memref sig .tc sp S256x512 .bf16) (f : m.view.ty.Contents (Elt F)) (Q : Vec F S256x512 .bf16)
    (hf : m.view.read (Elt F) f = Q) (h : Fin 4) (o : ℕ) (ho : o = 128 * h.val)
    (inb : ∀ a, (![0, o] : Fin 2 → ℕ) a + S256x128.size a ≤ S256x512.size a) :
    m.view.readAt (Elt F) (Rect.unit (s := S256x512) ![0, o] S256x128.size inb).toLoadRect f = qh Q h := by
  subst ho; subst hf; funext x
  show m.view.read (Elt F) f ((Rect.unit (s := S256x512) ![0, 128 * h.val] S256x128.size inb).idx x) = _
  unfold qh
  congr 1; funext a
  fin_cases a <;> apply Fin.ext <;> simp [Rect.unit, LoadRect.idx, Rect.toLoadRect, ix2]

theorem readK {sp : Space} (m : Memref sig .tc sp S8192x512 .bf16) (f : m.view.ty.Contents (Elt F)) (K : Vec F S8192x512 .bf16)
    (hf : m.view.read (Elt F) f = K) (n : ℕ) (hn : n < 64) (h : Fin 4) (off : Fin 2 → ℕ) (ho : off = ![128 * n, 128 * h.val])
    (inb : ∀ a, off a + S128x128.size a ≤ S8192x512.size a) :
    m.view.readAt (Elt F) (Rect.unit (s := S8192x512) off S128x128.size inb).toLoadRect f = kh K n h := by
  subst ho; subst hf; funext x
  show m.view.read (Elt F) f ((Rect.unit (s := S8192x512) ![128 * n, 128 * h.val] S128x128.size inb).idx x) = _
  unfold kh
  congr 1; funext a
  have h1 : (x 0).val < 128 := (x 0).isLt
  fin_cases a <;> apply Fin.ext
  · simp [Rect.unit, LoadRect.idx, Rect.toLoadRect, ix2]; omega
  · simp [Rect.unit, LoadRect.idx, Rect.toLoadRect, ix2]

theorem readC {sp : Space} (m : Memref sig .tc sp S4x256x128 .f32) (f : m.view.ty.Contents (Elt F)) (g : Fin 4 → FVec F S256x128 .f32)
    (hf : m.view.read (Elt F) f = stack g) (h : Fin 4) (o : ℕ) (ho : o = h.val)
    (inb : ∀ a, (![o, 0, 0] : Fin 3 → ℕ) a + S1x256x128.size a ≤ S4x256x128.size a) :
    shapeCast S256x128 (m.view.readAt (Elt F) (Rect.unit (s := S4x256x128) ![o, 0, 0] S1x256x128.size inb).toLoadRect f)
      shapeCasts_S1x256x128_S256x128 = g h := by
  subst ho; funext x
  refine (shapeCast_apply _ _ x (ix3 (n0 := 1) (n1 := 256) (n2 := 128) 0 (x 0) (x 1)) ?_).trans ?_
  · simp [Shape.rowMajor_val_three, Shape.rowMajor_val_two, ix3]
  show m.view.read (Elt F) f ((Rect.unit (s := S4x256x128) ![h.val, 0, 0] S1x256x128.size inb).idx _) = _
  rw [hf]
  unfold stack
  have e0 : ((Rect.unit (s := S4x256x128) ![h.val, 0, 0] S1x256x128.size inb).idx (ix3 (n0 := 1) (n1 := 256) (n2 := 128) 0 (x 0) (x 1))) 0 = h := by
    apply Fin.ext; simp [Rect.unit, LoadRect.idx, Rect.toLoadRect, ix3]
  rw [e0]
  congr 1; funext a
  fin_cases a <;> apply Fin.ext <;> simp [Rect.unit, LoadRect.idx, Rect.toLoadRect, ix2, ix3]

/-- The four heads' pieces. -/
abbrev pieces (w0 w1 w2 w3 : Vec F S1x256x128 .f32) : List (View.Piece (Elt F) S4x256x128 .f32) :=
  [⟨Rect.unit ![3, 0, 0] S1x256x128.size inb_S4x256x128_S1x256x128_3_0_0, w3⟩,
    ⟨Rect.unit ![2, 0, 0] S1x256x128.size inb_S4x256x128_S1x256x128_2_0_0, w2⟩,
    ⟨Rect.unit ![1, 0, 0] S1x256x128.size inb_S4x256x128_S1x256x128_1_0_0, w1⟩,
    ⟨Rect.unit ![0, 0, 0] S1x256x128.size inb_S4x256x128_S1x256x128_0_0_0, w0⟩]

theorem read_head {sp : Space} (m : Memref sig .tc sp S4x256x128 .f32) (f : m.view.ty.Contents (Elt F)) (L L' : List (View.Piece (Elt F) S4x256x128 .f32))
    (w : FVec F S256x128 .f32) (o : ℕ) (inb : ∀ a, (![o, 0, 0] : Fin 3 → ℕ) a + S1x256x128.size a ≤ S4x256x128.size a)
    (y : S4x256x128.Idx) (hy : (y 0).val = o) (hL : ∀ p ∈ L', y ∉ p.1.set) :
    m.view.read (Elt F) (m.view.writes (Elt F) f (L' ++ (⟨Rect.unit (s := S4x256x128) ![o, 0, 0] S1x256x128.size inb, shapeCast S1x256x128 w shapeCasts_S256x128_S1x256x128⟩ :: L))) y
      = w (ix2 (n0 := 256) (n1 := 128) (y 1) (y 2)) := by
  induction L' with
  | nil =>
    have e : y = (Rect.unit (s := S4x256x128) ![o, 0, 0] S1x256x128.size inb).emb (ix3 (n0 := 1) (n1 := 256) (n2 := 128) 0 (y 1) (y 2)) := by
      funext a; fin_cases a <;> apply Fin.ext <;> simp [Rect.unit, Rect.emb, LoadRect.idx, Rect.toLoadRect, ix3, hy]
    conv_lhs => rw [e]
    rw [List.nil_append, View.read_writes_cons_emb]
    refine shapeCast_apply _ _ _ _ ?_
    simp [Shape.rowMajor_val_three, Shape.rowMajor_val_two, ix3, ix2]
  | cons p L'' ih =>
    have hp : y ∉ Finset.univ.map p.1.emb := by rw [Rect.map_emb_univ]; exact hL p (by simp)
    rw [List.cons_append, View.writes_cons, View.read_slice_write_of_not_mem p.1 _ _ _ hp]
    exact ih fun p' hp' => hL p' (by simp [hp'])

/-- A buffer all four heads were written to. -/
theorem read4 {sp : Space} (m : Memref sig .tc sp S4x256x128 .f32) (f : m.view.ty.Contents (Elt F)) (g : Fin 4 → FVec F S256x128 .f32)
    (w0 w1 w2 w3 : Vec F S1x256x128 .f32)
    (h0 : w0 = shapeCast S1x256x128 (g 0) shapeCasts_S256x128_S1x256x128) (h1 : w1 = shapeCast S1x256x128 (g 1) shapeCasts_S256x128_S1x256x128)
    (h2 : w2 = shapeCast S1x256x128 (g 2) shapeCasts_S256x128_S1x256x128) (h3 : w3 = shapeCast S1x256x128 (g 3) shapeCasts_S256x128_S1x256x128) :
    m.view.read (Elt F) (m.view.writes (Elt F) f (pieces w0 w1 w2 w3)) = stack g := by
  subst h0 h1 h2 h3
  funext y
  have nm : ∀ (o : ℕ) (inb : ∀ a, (![o, 0, 0] : Fin 3 → ℕ) a + S1x256x128.size a ≤ S4x256x128.size a), (y 0).val ≠ o →
      y ∉ (Rect.unit (s := S4x256x128) ![o, 0, 0] S1x256x128.size inb).set := by
    intro o inb hne hm
    have := (Rect.mem_set_unit.mp hm) 0
    simp at this; omega
  have hlt : (y 0).val < 4 := (y 0).isLt
  unfold stack
  rcases (by omega : (y 0).val = 0 ∨ (y 0).val = 1 ∨ (y 0).val = 2 ∨ (y 0).val = 3) with h | h | h | h
  · rw [show y 0 = (0 : Fin 4) from Fin.ext h]
    exact read_head m f [] [⟨Rect.unit ![3, 0, 0] S1x256x128.size inb_S4x256x128_S1x256x128_3_0_0, _⟩, ⟨Rect.unit ![2, 0, 0] S1x256x128.size inb_S4x256x128_S1x256x128_2_0_0, _⟩, ⟨Rect.unit ![1, 0, 0] S1x256x128.size inb_S4x256x128_S1x256x128_1_0_0, _⟩] (g 0) 0 _ y h (by
      intro p hp; simp only [List.mem_cons, List.not_mem_nil, _root_.or_false]  at hp
      rcases hp with rfl | rfl | rfl
      · exact nm 3 inb_S4x256x128_S1x256x128_3_0_0 (by omega)
      · exact nm 2 inb_S4x256x128_S1x256x128_2_0_0 (by omega)
      · exact nm 1 inb_S4x256x128_S1x256x128_1_0_0 (by omega))
  · rw [show y 0 = (1 : Fin 4) from Fin.ext h]
    exact read_head m f [⟨_, _⟩] [⟨Rect.unit ![3, 0, 0] S1x256x128.size inb_S4x256x128_S1x256x128_3_0_0, _⟩, ⟨Rect.unit ![2, 0, 0] S1x256x128.size inb_S4x256x128_S1x256x128_2_0_0, _⟩] (g 1) 1 _ y h (by
      intro p hp; simp only [List.mem_cons, List.not_mem_nil, _root_.or_false]  at hp
      rcases hp with rfl | rfl
      · exact nm 3 inb_S4x256x128_S1x256x128_3_0_0 (by omega)
      · exact nm 2 inb_S4x256x128_S1x256x128_2_0_0 (by omega))
  · rw [show y 0 = (2 : Fin 4) from Fin.ext h]
    exact read_head m f [⟨_, _⟩, ⟨_, _⟩] [⟨Rect.unit ![3, 0, 0] S1x256x128.size inb_S4x256x128_S1x256x128_3_0_0, _⟩] (g 2) 2 _ y h (by
      intro p hp; simp only [List.mem_cons, List.not_mem_nil, _root_.or_false]  at hp
      subst hp
      exact nm 3 inb_S4x256x128_S1x256x128_3_0_0 (by omega))
  · rw [show y 0 = (3 : Fin 4) from Fin.ext h]
    exact read_head m f [⟨_, _⟩, ⟨_, _⟩, ⟨_, _⟩] [] (g 3) 3 _ y h (by
      intro p hp; simp at hp)

/-- The load of all four heads after they were written. -/
theorem readCov4 {sp : Space} (m : Memref sig .tc sp S4x256x128 .f32) (g : Fin 4 → FVec F S256x128 .f32)
    (w0 w1 w2 w3 : Vec F S1x256x128 .f32) (inb : ∀ a, (![0, 0, 0] : Fin 3 → ℕ) a + S4x256x128.size a ≤ S4x256x128.size a)
    (h0 : w0 = shapeCast S1x256x128 (g 0) shapeCasts_S256x128_S1x256x128) (h1 : w1 = shapeCast S1x256x128 (g 1) shapeCasts_S256x128_S1x256x128)
    (h2 : w2 = shapeCast S1x256x128 (g 2) shapeCasts_S256x128_S1x256x128) (h3 : w3 = shapeCast S1x256x128 (g 3) shapeCasts_S256x128_S1x256x128) :
    m.view.readCov (pieces w0 w1 w2 w3) (Rect.unit (s := S4x256x128) ![0, 0, 0] S4x256x128.size inb).toLoadRect = stack g := by
  rw [← read4 m m.view.junk g w0 w1 w2 w3 h0 h1 h2 h3]
  funext y
  show m.view.read (Elt F) _ ((Rect.unit (s := S4x256x128) ![0, 0, 0] S4x256x128.size inb).idx y) = _
  congr 1; funext a
  fin_cases a <;> apply Fin.ext <;> simp [Rect.unit, LoadRect.idx, Rect.toLoadRect]

/-! ## One head of one chunk -/

variable (u : FVec F S128x256 .bf16) (Q : Vec F S256x512 .bf16) (K V : Vec F S8192x512 .bf16)

theorem headAcc (n : ℕ) (σ : St F) (h : Fin 4) {q : FVec F S256x128 .bf16} {k v : FVec F S128x128 .bf16} {l6 l7 : Vec F S1x256x128 .f32}
    (hq : q = qh Q h) (hk : k = kh K n h) (hv : v = kh V n h)
    (h6 : shapeCast S256x128 l6 shapeCasts_S1x256x128_S256x128 = σ.acc h) (h7 : shapeCast S256x128 l7 shapeCasts_S1x256x128_S256x128 = σ.c h) :
    shapeCast S1x256x128
      (accNew (truncf .bf16 (eOf u (zOf (shapeCast S256x128 q shapeCasts_S256x128_S256x128) (shapeCast S128x128 k shapeCasts_S128x128_S128x128))
          (lkOf (zOf (shapeCast S256x128 q shapeCasts_S256x128_S256x128) (shapeCast S128x128 k shapeCasts_S128x128_S128x128)))
          (shapeCast S256x128 l7 shapeCasts_S1x256x128_S256x128)) bitsLt_bf16_f32)
        (shapeCast S128x128 v shapeCasts_S128x128_S128x128) (shapeCast S256x128 l6 shapeCasts_S1x256x128_S256x128))
      shapeCasts_S256x128_S1x256x128
    = shapeCast S1x256x128 ((step u Q K V n σ).acc h) shapeCasts_S256x128_S1x256x128 := by
  rw [h6, h7, shapeCast_self, shapeCast_self, shapeCast_self]; subst hq hk hv; rfl

theorem headC (n : ℕ) (σ : St F) (h : Fin 4) {q : FVec F S256x128 .bf16} {k : FVec F S128x128 .bf16} {l7 : Vec F S1x256x128 .f32}
    (hq : q = qh Q h) (hk : k = kh K n h) (h7 : shapeCast S256x128 l7 shapeCasts_S1x256x128_S256x128 = σ.c h) :
    shapeCast S1x256x128
      (cNew u (lkOf (zOf (shapeCast S256x128 q shapeCasts_S256x128_S256x128) (shapeCast S128x128 k shapeCasts_S128x128_S128x128)))
        (shapeCast S256x128 l7 shapeCasts_S1x256x128_S256x128)) shapeCasts_S256x128_S1x256x128
    = shapeCast S1x256x128 ((step u Q K V n σ).c h) shapeCasts_S256x128_S1x256x128 := by
  rw [h7, shapeCast_self, shapeCast_self]; subst hq hk; rfl

theorem headAccD (mask : IVec S256x128 1) (n : ℕ) (σ : St F) (h : Fin 4) {q : FVec F S256x128 .bf16} {k v : FVec F S128x128 .bf16} {l6 l7 : Vec F S1x256x128 .f32}
    (hq : q = qh Q h) (hk : k = kh K n h) (hv : v = kh V n h)
    (h6 : shapeCast S256x128 l6 shapeCasts_S1x256x128_S256x128 = σ.acc h) (h7 : shapeCast S256x128 l7 shapeCasts_S1x256x128_S256x128 = σ.c h) :
    shapeCast S1x256x128
      (accNew (truncf .bf16 (select mask (eOf u (zOf (shapeCast S256x128 q shapeCasts_S256x128_S256x128) (shapeCast S128x128 k shapeCasts_S128x128_S128x128))
          (select mask (lkOf (zOf (shapeCast S256x128 q shapeCasts_S256x128_S256x128) (shapeCast S128x128 k shapeCasts_S128x128_S128x128))) zero2)
          (shapeCast S256x128 l7 shapeCasts_S1x256x128_S256x128)) zero2) bitsLt_bf16_f32)
        (shapeCast S128x128 v shapeCasts_S128x128_S128x128) (shapeCast S256x128 l6 shapeCasts_S1x256x128_S256x128))
      shapeCasts_S256x128_S1x256x128
    = shapeCast S1x256x128 ((stepD mask u Q K V n σ).acc h) shapeCasts_S256x128_S1x256x128 := by
  rw [h6, h7, shapeCast_self, shapeCast_self, shapeCast_self]; subst hq hk hv; rfl

theorem headCD (mask : IVec S256x128 1) (n : ℕ) (σ : St F) (h : Fin 4) {q : FVec F S256x128 .bf16} {k : FVec F S128x128 .bf16} {l7 : Vec F S1x256x128 .f32}
    (hq : q = qh Q h) (hk : k = kh K n h) (h7 : shapeCast S256x128 l7 shapeCasts_S1x256x128_S256x128 = σ.c h) :
    shapeCast S1x256x128
      (cNew u (select mask (lkOf (zOf (shapeCast S256x128 q shapeCasts_S256x128_S256x128) (shapeCast S128x128 k shapeCasts_S128x128_S128x128))) zero2)
        (shapeCast S256x128 l7 shapeCasts_S1x256x128_S256x128)) shapeCasts_S256x128_S1x256x128
    = shapeCast S1x256x128 ((stepD mask u Q K V n σ).c h) shapeCasts_S256x128_S1x256x128 := by
  rw [h7, shapeCast_self, shapeCast_self]; subst hq hk; rfl

end Cert.Proof.SB

end
-- ==== Proof.SB.Loop.lean ====
/-
  The loop over the chunks before the query block: one trip leaves the two accumulators at `step` of their contents, and
  the label's specification at `n` chunks to go follows by induction on `n`.
-/
module

public import proofs.«01_k».proof.Proof.SB.Common

@[expose] public section

set_option maxRecDepth 16384

noncomputable section

namespace Cert.Proof.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

/-- The five buffers the walk works on: queries, keys and values as they are, the accumulators at `σ`. -/
def held (c : Dev nD) (arg2 : Memref sig .tc .vmem S256x512 .bf16) (arg3 arg4 : Memref sig .tc .vmem S8192x512 .bf16)
    (arg7 arg6 : Memref sig .tc .vmem S4x256x128 .f32) (Q : Vec F S256x512 .bf16) (K V : Vec F S8192x512 .bf16) (σ : St F) : sProp 𝕄 :=
  iprop(owns (c : Thread nD τ) arg2 fullShare Q ∗ owns (c : Thread nD τ) arg3 fullShare K ∗ owns (c : Thread nD τ) arg4 fullShare V
    ∗ owns (c : Thread nD τ) arg6 fullShare (stack σ.acc) ∗ owns (c : Thread nD τ) arg7 fullShare (stack σ.c))

theorem flag_of (g : Fin 4 → FVec F S256x128 .f32) (x : Vec F S4x256x128 .f32) (hx : x = stack g) :
    Scalar.extui (Scalar.cmpf .ogt (k0_pay4 x) (Named.named κ "exit" 0xC2F00000#32 : F .f32)) = flag g := by
  subst hx; rfl

set_option maxHeartbeats 1000000 in
/-- One trip, up to the call of the rest of the walk. -/
theorem trip (c : Dev nD) (E : Set ℕ) (bd : Option ℕ) (n : Fin 64) (i : grid0.Coords) (arg2 : Memref sig .tc .vmem S256x512 .bf16) (harg2 : arg2.IsWhole)
    (arg3 : Memref sig .tc .vmem S8192x512 .bf16) (harg3 : arg3.IsWhole) (arg4 : Memref sig .tc .vmem S8192x512 .bf16) (harg4 : arg4.IsWhole)
    (u : FVec F S128x256 .bf16) (arg7 : Memref sig .tc .vmem S4x256x128 .f32) (harg7 : arg7.IsWhole) (arg6 : Memref sig .tc .vmem S4x256x128 .f32)
    (harg6 : arg6.IsWhole) (arg9 : BitVec 32) (Q : Vec F S256x512 .bf16) (KK VV : Vec F S8192x512 .bf16) (σ : St F)
    (h9 : Scalar.andi (Scalar.cmpi .sge (BitVec.ofNat 32 n.val) 0#32) (Scalar.cmpi .sgt arg9 0#32) = 1#1)
    (K : BitVec 32 × BitVec 32 → sProp 𝕄) :
    iprop(held c arg2 arg3 arg4 arg7 arg6 Q KK VV σ
      ∗ (held c arg2 arg3 arg4 arg7 arg6 Q KK VV (step u Q KK VV n.val σ) -∗
          wp frame (wpE (defs₀ (F := F)) 𝒱₀ (c : Thread nD τ) bd) E
            (Prog.op (TpuEff.call (1 : (Λ₀ F).Label)
              ⟨i, arg2, harg2, arg3, harg3, arg4, harg4, u, arg7, harg7, arg6, harg6, Scalar.subi (BitVec.ofNat 32 n.val) 1#32,
                flag (step u Q KK VV n.val σ).c⟩) Prog.ret) K))
      ⊢ wp frame (wpE (defs₀ (F := F)) 𝒱₀ (c : Thread nD τ) bd) E
        (cc0_while1 (F := F) i arg2 harg2 arg3 harg3 arg4 harg4 u arg7 harg7 arg6 harg6 (BitVec.ofNat 32 n.val) arg9) K := by
  have hchk := chk n
  simp only [cc0_while1_eq_skeleton]
  unfold cc0_while1_skel
  simp only [k0_part13_eq_skeleton, k0_part14_eq_skeleton, k0_part15_eq_skeleton, k0_part16_eq_skeleton, k0_part17_eq_skeleton]
  unfold held owns
  iintro ⟨⟨⟨%f2, %hf2, H2⟩, ⟨%f3, %hf3, H3⟩, ⟨%f4, %hf4, H4⟩, ⟨%f6, %hf6, H6⟩, ⟨%f7, %hf7, H7⟩⟩, Hk⟩
  have hq : ∀ h : Fin 4, ∀ o, o = 128 * h.val → ∀ inb, _ := readQ arg2 f2 Q hf2
  have hk : ∀ h : Fin 4, ∀ off, off = ![128 * n.val, 128 * h.val] → ∀ inb, _ := readK arg3 f3 KK hf3 n.val n.isLt
  have hv : ∀ h : Fin 4, ∀ off, off = ![128 * n.val, 128 * h.val] → ∀ inb, _ := readK arg4 f4 VV hf4 n.val n.isLt
  have h6 : ∀ h : Fin 4, ∀ o, o = h.val → ∀ inb, _ := readC arg6 f6 σ.acc hf6
  have h7 : ∀ h : Fin 4, ∀ o, o = h.val → ∀ inb, _ := readC arg7 f7 σ.c hf7
  sl_exec
  have e7 := readCov4 arg7 (step u Q KK VV n.val σ).c _ _ _ _ inb_S4x256x128_S4x256x128_0_0_0
    (headC u Q KK VV n.val σ 0 (hq 0 0 rfl inb_S256x512_S256x128_0_0) (hk 0 _ (off5 n) hchk.2.1) (h7 0 0 rfl inb_S4x256x128_S1x256x128_0_0_0))
    (headC u Q KK VV n.val σ 1 (hq 1 128 rfl inb_S256x512_S256x128_0_128) (hk 1 _ (off6 n) hchk.2.2.1) (h7 1 1 rfl inb_S4x256x128_S1x256x128_1_0_0))
    (headC u Q KK VV n.val σ 2 (hq 2 256 rfl inb_S256x512_S256x128_0_256) (hk 2 _ (off7 n) hchk.2.2.2.1) (h7 2 2 rfl inb_S4x256x128_S1x256x128_2_0_0))
    (headC u Q KK VV n.val σ 3 (hq 3 384 rfl inb_S256x512_S256x128_0_384) (hk 3 _ (off8 n) hchk.2.2.2.2) (h7 3 3 rfl inb_S4x256x128_S1x256x128_3_0_0))
  have ef : Scalar.extui (Scalar.cmpf .ogt (k0_pay4 (trip.sl.v669 c n arg2 arg3 u arg7 hchk f2 f3 f7)) (Named.named κ "exit" 0xC2F00000#32 : F .f32))
      = flag (step u Q KK VV n.val σ).c  := flag_of _ _ e7
  rw [ef]
  iapply Hk
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H6]
  · iexists _; isplitr
    · ipureintro
      exact read4 arg6 f6 (step u Q KK VV n.val σ).acc _ _ _ _
        (headAcc u Q KK VV n.val σ 0 (hq 0 0 rfl inb_S256x512_S256x128_0_0) (hk 0 _ (off5 n) hchk.2.1) (hv 0 _ (off5 n) hchk.2.1) (h6 0 0 rfl inb_S4x256x128_S1x256x128_0_0_0) (h7 0 0 rfl inb_S4x256x128_S1x256x128_0_0_0))
        (headAcc u Q KK VV n.val σ 1 (hq 1 128 rfl inb_S256x512_S256x128_0_128) (hk 1 _ (off6 n) hchk.2.2.1) (hv 1 _ (off6 n) hchk.2.2.1) (h6 1 1 rfl inb_S4x256x128_S1x256x128_1_0_0) (h7 1 1 rfl inb_S4x256x128_S1x256x128_1_0_0))
        (headAcc u Q KK VV n.val σ 2 (hq 2 256 rfl inb_S256x512_S256x128_0_256) (hk 2 _ (off7 n) hchk.2.2.2.1) (hv 2 _ (off7 n) hchk.2.2.2.1) (h6 2 2 rfl inb_S4x256x128_S1x256x128_2_0_0) (h7 2 2 rfl inb_S4x256x128_S1x256x128_2_0_0))
        (headAcc u Q KK VV n.val σ 3 (hq 3 384 rfl inb_S256x512_S256x128_0_384) (hk 3 _ (off8 n) hchk.2.2.2.2) (hv 3 _ (off8 n) hchk.2.2.2.2) (h6 3 3 rfl inb_S4x256x128_S1x256x128_3_0_0) (h7 3 3 rfl inb_S4x256x128_S1x256x128_3_0_0))
    iexact H6
  · iexists _; isplitr
    · ipureintro
      exact read4 arg7 f7 (step u Q KK VV n.val σ).c _ _ _ _
        (headC u Q KK VV n.val σ 0 (hq 0 0 rfl inb_S256x512_S256x128_0_0) (hk 0 _ (off5 n) hchk.2.1) (h7 0 0 rfl inb_S4x256x128_S1x256x128_0_0_0))
        (headC u Q KK VV n.val σ 1 (hq 1 128 rfl inb_S256x512_S256x128_0_128) (hk 1 _ (off6 n) hchk.2.2.1) (h7 1 1 rfl inb_S4x256x128_S1x256x128_1_0_0))
        (headC u Q KK VV n.val σ 2 (hq 2 256 rfl inb_S256x512_S256x128_0_256) (hk 2 _ (off7 n) hchk.2.2.2.1) (h7 2 2 rfl inb_S4x256x128_S1x256x128_2_0_0))
        (headC u Q KK VV n.val σ 3 (hq 3 384 rfl inb_S256x512_S256x128_0_384) (hk 3 _ (off8 n) hchk.2.2.2.2) (h7 3 3 rfl inb_S4x256x128_S1x256x128_3_0_0))
    iexact H7

/-- The walk over the `n` chunks before the query block, or as many as leave weight. -/
theorem walk (c : Dev nD) (E : Set ℕ) (i : grid0.Coords) (arg2 : Memref sig .tc .vmem S256x512 .bf16) (harg2 : arg2.IsWhole)
    (arg3 : Memref sig .tc .vmem S8192x512 .bf16) (harg3 : arg3.IsWhole) (arg4 : Memref sig .tc .vmem S8192x512 .bf16) (harg4 : arg4.IsWhole)
    (u : FVec F S128x256 .bf16) (arg7 : Memref sig .tc .vmem S4x256x128 .f32) (harg7 : arg7.IsWhole) (arg6 : Memref sig .tc .vmem S4x256x128 .f32)
    (harg6 : arg6.IsWhole) (Q : Vec F S256x512 .bf16) (KK VV : Vec F S8192x512 .bf16) :
    ∀ n, n ≤ 63 → ∀ (σ : St F) (K : BitVec 32 × BitVec 32 → sProp 𝕄),
    iprop(held c arg2 arg3 arg4 arg7 arg6 Q KK VV σ
      ∗ (∀ r, held c arg2 arg3 arg4 arg7 arg6 Q KK VV (loopF u Q KK VV n σ) -∗ K r))
      ⊢ wp frame (wpE (defs₀ (F := F)) 𝒱₀ (c : Thread nD τ) (some n)) E
        (cc0_while1 (F := F) i arg2 harg2 arg3 harg3 arg4 harg4 u arg7 harg7 arg6 harg6 (Scalar.subi (BitVec.ofNat 32 n) 1#32) (flag σ.c)) K := by
  intro n
  induction n with
  | zero =>
    intro _ σ K
    simp only [cc0_while1_eq_skeleton]
    unfold cc0_while1_skel
    simp only [stop0, ↓reduceIte, Prog.pure_eq_ret]
    rw [show loopF u Q KK VV 0 σ = σ from rfl]
    iintro ⟨H, Hk⟩
    rw [wp_ret]; imodintro
    iapply Hk $$ H
  | succ n ih =>
    intro hn σ K
    have hn64 : n < 64 := by omega
    have hn63 : n ≤ 63 := by omega
    rw [subi_succ ⟨n, hn64⟩]
    by_cases hc : Scalar.cmpi .sgt (flag σ.c) 0#32 = 1#1
    · have h9 : Scalar.andi (Scalar.cmpi .sge (BitVec.ofNat 32 n) 0#32) (Scalar.cmpi .sgt (flag σ.c) 0#32) = 1#1 := by
        rw [sge_nat ⟨n, by omega⟩, hc, andi_one]
      have hl : loopF u Q KK VV (n + 1) σ = loopF u Q KK VV n (step u Q KK VV n σ) := by
        exact if_pos hc
      rw [hl]
      iintro ⟨H, Hk⟩
      iapply (trip c E (some (n + 1)) ⟨n, hn64⟩ i arg2 harg2 arg3 harg3 arg4 harg4 u arg7 harg7 arg6 harg6 (flag σ.c) Q KK VV σ h9 K)
      isplitl [H]; · iexact H
      iintro H
      iapply (wp_call (defs := defs₀ (F := F)) 𝒱₀ (c : Thread nD τ) (some (n + 1)) E n (fun u hu => by cases hu; exact Nat.lt_succ_self n))
      iapply (ih hn63 (step u Q KK VV n σ) _)
      isplitl [H]; · iexact H
      iintro %r H
      rw [wp_ret]; imodintro
      iapply Hk $$ H
    · have h9 : ¬ Scalar.andi (Scalar.cmpi .sge (BitVec.ofNat 32 n) 0#32) (Scalar.cmpi .sgt (flag σ.c) 0#32) = 1#1 := by
        rw [sge_nat ⟨n, by omega⟩, andi_one]; exact hc
      have hl : loopF u Q KK VV (n + 1) σ = σ := by
        exact if_neg hc
      rw [hl]
      simp only [cc0_while1_eq_skeleton]
      unfold cc0_while1_skel
      simp only [h9, ↓reduceIte, Prog.pure_eq_ret]
      iintro ⟨H, Hk⟩
      rw [wp_ret]; imodintro
      iapply Hk $$ H

end Cert.Proof.SB

end
-- ==== Proof.SB.Writes.lean ====
/-
  What the body's writes leave: a buffer some of whose heads were rewritten one after the other, and the result's block
  written head by head.
-/
module

public import proofs.«01_k».proof.Proof.SB.Common

@[expose] public section

set_option maxRecDepth 16384

noncomputable section

namespace Cert.Proof.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

/-! ## A buffer some of whose heads were rewritten -/

/-- `g` with head `k` at `x`. -/
def upd (g : Fin 4 → FVec F S256x128 .f32) (k : Fin 4) (x : FVec F S256x128 .f32) : Fin 4 → FVec F S256x128 .f32 :=
  fun h => if h = k then x else g h

/-- The writes `L` cover the buffer and leave head `h` at `g h`. -/
def Rd {sp : Space} (m : Memref sig .tc sp S4x256x128 .f32) (L : List (View.Piece (Elt F) S4x256x128 .f32)) (g : Fin 4 → FVec F S256x128 .f32) : Prop :=
  (∀ y, ∃ p ∈ L, y ∈ p.1.set) ∧
  ∀ (h : Fin 4) (o : ℕ), o = h.val → ∀ inb : ∀ a, (![o, 0, 0] : Fin 3 → ℕ) a + S1x256x128.size a ≤ S4x256x128.size a,
    shapeCast S256x128 (m.view.readCov L (Rect.unit (s := S4x256x128) ![o, 0, 0] S1x256x128.size inb).toLoadRect) shapeCasts_S1x256x128_S256x128 = g h

theorem Rd.zero {sp : Space} (m : Memref sig .tc sp S4x256x128 .f32) (w : Vec F S4x256x128 .f32)
    (inb : ∀ a, (![0, 0, 0] : Fin 3 → ℕ) a + S4x256x128.size a ≤ S4x256x128.size a)
    (hw : w = fun _ => Scalar.ofBits .f32 0x00000000#32) :
    Rd m [⟨Rect.unit (s := S4x256x128) ![0, 0, 0] S4x256x128.size inb, w⟩] (fun _ => zero2) := by
  have hin : ∀ y, y ∈ (Rect.unit (s := S4x256x128) ![0, 0, 0] S4x256x128.size inb).set := by
    intro y; rw [Rect.mem_set_unit]; intro a
    have := (y a).isLt
    fin_cases a <;> exact ⟨Nat.zero_le _, by simpa using this⟩
  refine ⟨fun y => ⟨_, List.mem_singleton.mpr rfl, hin y⟩, fun h o ho inb' => ?_⟩
  rw [View.readCov_eq_canon']
  have hc : ∀ y, View.canon [(⟨Rect.unit (s := S4x256x128) ![0, 0, 0] S4x256x128.size inb, w⟩ : View.Piece (Elt F) S4x256x128 .f32)] y
      = Scalar.ofBits .f32 0x00000000#32 := by
    intro y
    obtain ⟨x, rfl⟩ : ∃ x, (Rect.unit (s := S4x256x128) ![0, 0, 0] S4x256x128.size inb).emb x = y :=
      (Rect.unit (s := S4x256x128) ![0, 0, 0] S4x256x128.size inb).exists_idx_of_mem (hin y)
    rw [View.canon_cons_emb, hw]
  funext x
  exact hc _

theorem Rd.cons {sp : Space} {m : Memref sig .tc sp S4x256x128 .f32} {L : List (View.Piece (Elt F) S4x256x128 .f32)} {g : Fin 4 → FVec F S256x128 .f32}
    (hR : Rd m L g) (k : Fin 4) (o : ℕ) (ho : o = k.val) (inb : ∀ a, (![o, 0, 0] : Fin 3 → ℕ) a + S1x256x128.size a ≤ S4x256x128.size a)
    (w : Vec F S1x256x128 .f32) (x : FVec F S256x128 .f32) (hw : w = shapeCast S1x256x128 x shapeCasts_S256x128_S1x256x128) :
    Rd m (⟨Rect.unit (s := S4x256x128) ![o, 0, 0] S1x256x128.size inb, w⟩ :: L) (upd g k x) := by
  refine ⟨fun y => ?_, fun h o' ho' inb' => ?_⟩
  · obtain ⟨p, hp, hy⟩ := hR.1 y
    exact ⟨p, List.mem_cons_of_mem _ hp, hy⟩
  unfold upd
  by_cases hk : h = k
  · subst hk; subst ho; subst ho'
    rw [if_pos rfl, View.readCov_cons_toLoadRect, hw]
    exact shapeCast_shapeCast x _ _
  · rw [if_neg hk, View.readCov_cons_of_disjoint]
    · exact hR.2 h o' ho' inb'
    · rw [Finset.disjoint_left]
      intro y hy hy'
      have h1 := (Rect.mem_set_unit (inb := inb)).mp hy 0
      have h2 := (Rect.mem_set_unit (inb := inb')).mp hy' 0
      apply hk; apply Fin.ext
      simp at h1 h2
      omega

theorem Rd.read {sp : Space} {m : Memref sig .tc sp S4x256x128 .f32} {L : List (View.Piece (Elt F) S4x256x128 .f32)} {g : Fin 4 → FVec F S256x128 .f32}
    (hR : Rd m L g) (f : m.view.ty.Contents (Elt F)) : m.view.read (Elt F) (m.view.writes (Elt F) f L) = stack g := by
  rw [View.read_writes_eq_canon _ _ _ hR.1]
  funext y
  have hy : (y 0).val < 4 := (y 0).isLt
  have inb : ∀ a, (![(y 0).val, 0, 0] : Fin 3 → ℕ) a + S1x256x128.size a ≤ S4x256x128.size a := by
    intro a; fin_cases a <;> simp [S1x256x128, S4x256x128]; omega
  have := congrFun (hR.2 (y 0) (y 0).val rfl inb) (ix2 (n0 := 256) (n1 := 128) (y 1) (y 2))
  unfold stack
  rw [← this, View.readCov_eq_canon']
  refine Eq.symm ((shapeCast_apply _ _ _ (ix3 (n0 := 1) (n1 := 256) (n2 := 128) 0 (y 1) (y 2)) ?_).trans ?_)
  · simp [Shape.rowMajor_val_three, Shape.rowMajor_val_two, ix3, ix2]
  · show View.canon L _ = View.canon L _
    congr 1; funext a
    fin_cases a <;> apply Fin.ext <;> simp [Rect.unit, LoadRect.idx, Rect.toLoadRect, ix3]

theorem Rd.readCov {sp : Space} {m : Memref sig .tc sp S4x256x128 .f32} {L : List (View.Piece (Elt F) S4x256x128 .f32)} {g : Fin 4 → FVec F S256x128 .f32}
    (hR : Rd m L g) (inb : ∀ a, (![0, 0, 0] : Fin 3 → ℕ) a + S4x256x128.size a ≤ S4x256x128.size a) :
    m.view.readCov L (Rect.unit (s := S4x256x128) ![0, 0, 0] S4x256x128.size inb).toLoadRect = stack g := by
  rw [← hR.read m.view.junk]
  funext y
  show m.view.read (Elt F) _ ((Rect.unit (s := S4x256x128) ![0, 0, 0] S4x256x128.size inb).idx y) = _
  congr 1; funext a
  fin_cases a <;> apply Fin.ext <;> simp [Rect.unit, LoadRect.idx, Rect.toLoadRect]

/-- The heads below `k` at `new`, the others at `old`. -/
def mix (k : ℕ) (new old : Fin 4 → FVec F S256x128 .f32) : Fin 4 → FVec F S256x128 .f32 :=
  fun h => if h.val < k then new h else old h

theorem mix_zero (new old : Fin 4 → FVec F S256x128 .f32) : mix 0 new old = old := rfl

theorem mix_four (new old : Fin 4 → FVec F S256x128 .f32) : mix 4 new old = new := by
  funext h; exact if_pos h.isLt

theorem upd_mix (k : Fin 4) (new old : Fin 4 → FVec F S256x128 .f32) : upd (mix k.val new old) k (new k) = mix (k.val + 1) new old := by
  funext h
  unfold upd mix
  by_cases e : h = k
  · subst e; rw [if_pos rfl, if_pos (Nat.lt_succ_self _)]
  · have e' : h.val ≠ k.val := fun x => e (Fin.ext x)
    rw [if_neg e]
    by_cases l : h.val < k.val
    · rw [if_pos l, if_pos (by omega)]
    · rw [if_neg l, if_neg (by omega)]

/-- Head `k` goes from `old` to `new`. -/
theorem Rd.put {sp : Space} {m : Memref sig .tc sp S4x256x128 .f32} {L : List (View.Piece (Elt F) S4x256x128 .f32)} {new old : Fin 4 → FVec F S256x128 .f32}
    (k : Fin 4) (o : ℕ) (ho : o = k.val) (hR : Rd m L (mix o new old)) (inb : ∀ a, (![o, 0, 0] : Fin 3 → ℕ) a + S1x256x128.size a ≤ S4x256x128.size a)
    (w : Vec F S1x256x128 .f32) (hw : w = shapeCast S1x256x128 (new k) shapeCasts_S256x128_S1x256x128) :
    Rd m (⟨Rect.unit (s := S4x256x128) ![o, 0, 0] S1x256x128.size inb, w⟩ :: L) (mix (o + 1) new old) := by
  subst ho
  rw [← upd_mix]
  exact hR.cons k k.val rfl inb w (new k) hw

/-- The head whose turn it is still holds `old`. -/
theorem Rd.cur {sp : Space} {m : Memref sig .tc sp S4x256x128 .f32} {L : List (View.Piece (Elt F) S4x256x128 .f32)} {new old : Fin 4 → FVec F S256x128 .f32}
    (k : Fin 4) (o : ℕ) (ho : o = k.val) (hR : Rd m L (mix o new old)) (inb : ∀ a, (![o, 0, 0] : Fin 3 → ℕ) a + S1x256x128.size a ≤ S4x256x128.size a) :
    shapeCast S256x128 (m.view.readCov L (Rect.unit (s := S4x256x128) ![o, 0, 0] S1x256x128.size inb).toLoadRect) shapeCasts_S1x256x128_S256x128 = old k := by
  rw [hR.2 k o ho inb]
  exact if_neg (by omega)

theorem Rd.done {sp : Space} {m : Memref sig .tc sp S4x256x128 .f32} {L : List (View.Piece (Elt F) S4x256x128 .f32)} {new old : Fin 4 → FVec F S256x128 .f32}
    (hR : Rd m L (mix (3 + 1) new old)) : Rd m L new := by
  rw [← mix_four new old]; exact hR

theorem Rd.next {sp : Space} {m : Memref sig .tc sp S4x256x128 .f32} {L : List (View.Piece (Elt F) S4x256x128 .f32)} {new old : Fin 4 → FVec F S256x128 .f32}
    (new' : Fin 4 → FVec F S256x128 .f32) (hR : Rd m L (mix (3 + 1) new old)) : Rd m L (mix 0 new' new) := by
  rw [mix_zero]; exact hR.done

/-! ## The result's block -/

theorem read_lanes {sp : Space} (m : Memref sig .tc sp S256x512 .bf16) (f : m.view.ty.Contents (Elt F)) (L L' : List (View.Piece (Elt F) S256x512 .bf16))
    (w : FVec F S256x128 .bf16) (o : ℕ) (inb : ∀ a, (![0, o] : Fin 2 → ℕ) a + S256x128.size a ≤ S256x512.size a)
    (y : S256x512.Idx) (hy : o ≤ (y 1).val) (hy' : (y 1).val < o + 128) (hL : ∀ p ∈ L', y ∉ p.1.set) :
    m.view.read (Elt F) (m.view.writes (Elt F) f (L' ++ (⟨Rect.unit (s := S256x512) ![0, o] S256x128.size inb, w⟩ :: L))) y
      = w (ix2 (n0 := 256) (n1 := 128) (y 0) ⟨(y 1).val - o, by omega⟩) := by
  induction L' with
  | nil =>
    have e : y = (Rect.unit (s := S256x512) ![0, o] S256x128.size inb).emb (ix2 (n0 := 256) (n1 := 128) (y 0) ⟨(y 1).val - o, by omega⟩) := by
      funext a; fin_cases a <;> apply Fin.ext
      · simp [Rect.unit, Rect.emb, LoadRect.idx, Rect.toLoadRect, ix2]
      · simp [Rect.unit, Rect.emb, LoadRect.idx, Rect.toLoadRect, ix2]; omega
    conv_lhs => rw [e]
    rw [List.nil_append, View.read_writes_cons_emb]
  | cons p L'' ih =>
    have hp : y ∉ Finset.univ.map p.1.emb := by rw [Rect.map_emb_univ]; exact hL p (by simp)
    rw [List.cons_append, View.writes_cons, View.read_slice_write_of_not_mem p.1 _ _ _ hp]
    exact ih fun p' hp' => hL p' (by simp [hp'])

theorem readOut {sp : Space} (m : Memref sig .tc sp S256x512 .bf16) (f : m.view.ty.Contents (Elt F)) (g : Fin 4 → FVec F S256x128 .bf16)
    (w0 w1 w2 w3 : FVec F S256x128 .bf16) (h0 : w0 = g 0) (h1 : w1 = g 1) (h2 : w2 = g 2) (h3 : w3 = g 3) :
    m.view.read (Elt F) (m.view.writes (Elt F) f
      [⟨Rect.unit (s := S256x512) ![0, 384] S256x128.size inb_S256x512_S256x128_0_384, w3⟩,
        ⟨Rect.unit (s := S256x512) ![0, 256] S256x128.size inb_S256x512_S256x128_0_256, w2⟩,
        ⟨Rect.unit (s := S256x512) ![0, 128] S256x128.size inb_S256x512_S256x128_0_128, w1⟩,
        ⟨Rect.unit (s := S256x512) ![0, 0] S256x128.size inb_S256x512_S256x128_0_0, w0⟩])
      = fun x => g ⟨(x 1).val / 128, by have h1 := (x 1).isLt; have h2 : (x 1).val < 512 := h1; omega⟩
          (ix2 (n0 := 256) (n1 := 128) (x 0) ⟨(x 1).val % 128, Nat.mod_lt _ (by decide)⟩) := by
  subst h0 h1 h2 h3
  funext y
  have hlt : (y 1).val < 512 := (y 1).isLt
  have nm : ∀ (o : ℕ) (inb : ∀ a, (![0, o] : Fin 2 → ℕ) a + S256x128.size a ≤ S256x512.size a), (y 1).val < o →
      y ∉ (Rect.unit (s := S256x512) ![0, o] S256x128.size inb).set := by
    intro o inb hne hm
    have := (Rect.mem_set_unit.mp hm) 1
    simp at this; omega
  rcases (by omega : (y 1).val / 128 = 0 ∨ (y 1).val / 128 = 1 ∨ (y 1).val / 128 = 2 ∨ (y 1).val / 128 = 3) with h | h | h | h
  · refine (read_lanes m f [] [⟨Rect.unit (s := S256x512) ![0, 384] S256x128.size inb_S256x512_S256x128_0_384, _⟩,
        ⟨Rect.unit (s := S256x512) ![0, 256] S256x128.size inb_S256x512_S256x128_0_256, _⟩,
        ⟨Rect.unit (s := S256x512) ![0, 128] S256x128.size inb_S256x512_S256x128_0_128, _⟩] (g 0) 0 inb_S256x512_S256x128_0_0 y (by omega) (by omega) ?_).trans ?_
    · intro p hp; simp only [List.mem_cons, List.not_mem_nil, _root_.or_false] at hp
      rcases hp with rfl | rfl | rfl
      · exact nm 384 inb_S256x512_S256x128_0_384 (by omega)
      · exact nm 256 inb_S256x512_S256x128_0_256 (by omega)
      · exact nm 128 inb_S256x512_S256x128_0_128 (by omega)
    · rw [show (⟨(y 1).val / 128, by omega⟩ : Fin 4) = 0 from Fin.ext h]
      congr 2; apply Fin.ext; show _ - _ = _ % 128; omega
  · refine (read_lanes m f [⟨Rect.unit (s := S256x512) ![0, 0] S256x128.size inb_S256x512_S256x128_0_0, g 0⟩]
        [⟨Rect.unit (s := S256x512) ![0, 384] S256x128.size inb_S256x512_S256x128_0_384, _⟩,
        ⟨Rect.unit (s := S256x512) ![0, 256] S256x128.size inb_S256x512_S256x128_0_256, _⟩] (g 1) 128 inb_S256x512_S256x128_0_128 y (by omega) (by omega) ?_).trans ?_
    · intro p hp; simp only [List.mem_cons, List.not_mem_nil, _root_.or_false] at hp
      rcases hp with rfl | rfl
      · exact nm 384 inb_S256x512_S256x128_0_384 (by omega)
      · exact nm 256 inb_S256x512_S256x128_0_256 (by omega)
    · rw [show (⟨(y 1).val / 128, by omega⟩ : Fin 4) = 1 from Fin.ext h]
      congr 2; apply Fin.ext; show _ - _ = _ % 128; omega
  · refine (read_lanes m f [⟨Rect.unit (s := S256x512) ![0, 128] S256x128.size inb_S256x512_S256x128_0_128, g 1⟩,
        ⟨Rect.unit (s := S256x512) ![0, 0] S256x128.size inb_S256x512_S256x128_0_0, g 0⟩]
        [⟨Rect.unit (s := S256x512) ![0, 384] S256x128.size inb_S256x512_S256x128_0_384, _⟩] (g 2) 256 inb_S256x512_S256x128_0_256 y (by omega) (by omega) ?_).trans ?_
    · intro p hp; simp only [List.mem_cons, List.not_mem_nil, _root_.or_false] at hp
      subst hp
      exact nm 384 inb_S256x512_S256x128_0_384 (by omega)
    · rw [show (⟨(y 1).val / 128, by omega⟩ : Fin 4) = 2 from Fin.ext h]
      congr 2; apply Fin.ext; show _ - _ = _ % 128; omega
  · refine (read_lanes m f [⟨Rect.unit (s := S256x512) ![0, 256] S256x128.size inb_S256x512_S256x128_0_256, g 2⟩,
        ⟨Rect.unit (s := S256x512) ![0, 128] S256x128.size inb_S256x512_S256x128_0_128, g 1⟩,
        ⟨Rect.unit (s := S256x512) ![0, 0] S256x128.size inb_S256x512_S256x128_0_0, g 0⟩]
        [] (g 3) 384 inb_S256x512_S256x128_0_384 y (by omega) (by omega) ?_).trans ?_
    · intro p hp; simp at hp
    · rw [show (⟨(y 1).val / 128, by omega⟩ : Fin 4) = 3 from Fin.ext h]
      congr 2; apply Fin.ext; show _ - _ = _ % 128; omega

/-! ## The block's place -/

theorem muli_two (b : Fin 32) : Scalar.muli (BitVec.ofNat 32 b.val) 2#32 = BitVec.ofNat 32 (2 * b.val) := by
  revert b; decide +kernel

theorem offA (i : grid0.Coords) : k0_off1 i 128#32 = ![128 * (2 * (i 1).val + 1), 128 * (0 : Fin 4).val]
    ∧ k0_off2 i 128#32 = ![128 * (2 * (i 1).val + 1), 128 * (1 : Fin 4).val]
    ∧ k0_off3 i 128#32 = ![128 * (2 * (i 1).val + 1), 128 * (2 : Fin 4).val]
    ∧ k0_off4 i 128#32 = ![128 * (2 * (i 1).val + 1), 128 * (3 : Fin 4).val] := by
  have e : 256 * (i 1).val + 128 * 1 = 128 * (2 * (i 1).val + 1) := by omega
  exact ⟨(k0_off1_eq i 1).trans (congrArg (fun x => ![x, 0]) e), (k0_off2_eq i 1).trans (congrArg (fun x => ![x, 128]) e),
    (k0_off3_eq i 1).trans (congrArg (fun x => ![x, 256]) e), (k0_off4_eq i 1).trans (congrArg (fun x => ![x, 384]) e)⟩

theorem offB (i : grid0.Coords) : k0_off1 i 0#32 = ![128 * (2 * (i 1).val), 128 * (0 : Fin 4).val]
    ∧ k0_off2 i 0#32 = ![128 * (2 * (i 1).val), 128 * (1 : Fin 4).val]
    ∧ k0_off3 i 0#32 = ![128 * (2 * (i 1).val), 128 * (2 : Fin 4).val]
    ∧ k0_off4 i 0#32 = ![128 * (2 * (i 1).val), 128 * (3 : Fin 4).val] := by
  have e : 256 * (i 1).val + 128 * 0 = 128 * (2 * (i 1).val) := by omega
  exact ⟨(k0_off1_eq i 0).trans (congrArg (fun x => ![x, 0]) e), (k0_off2_eq i 0).trans (congrArg (fun x => ![x, 128]) e),
    (k0_off3_eq i 0).trans (congrArg (fun x => ![x, 256]) e), (k0_off4_eq i 0).trans (congrArg (fun x => ![x, 384]) e)⟩

theorem flag_of' (g : Fin 4 → FVec F S256x128 .f32) (x : Vec F S4x256x128 .f32) (hx : x = stack g) :
    Scalar.extui (Scalar.cmpf .ogt (k0_pay96 x) (Named.named κ "exit" 0xC2F00000#32 : F .f32)) = flag g := by
  subst hx; rfl

theorem pay5_eq : k0_pay5 (F := F) = fun _ => Scalar.ofBits .f32 0x00000000#32 := by
  exact shapeCast_self (broadcast S4x256x128 (Scalar.ofBits .f32 0x00000000#32)) _

theorem pay6_eq : k0_pay6 (F := F) = fun _ => Scalar.ofBits .f32 0x00000000#32 := by
  exact shapeCast_self (broadcast S4x256x128 (Scalar.ofBits .f32 0x00000000#32)) _

end Cert.Proof.SB

end
-- ==== Proof.SB.Pay.lean ====
module

public import proofs.«01_k».proof.Proof.SB.Writes

/-! The values the kernel names on its way through the two chunks of the diagonal, as values of `Spec`. -/

@[expose] public section

set_option maxRecDepth 16384

noncomputable section

namespace Cert.Proof.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

theorem p7  :
    k0_pay7 (F := F) = u2 := rfl

theorem p8  :
    k0_pay8 = maskD 128#32 := rfl

theorem p49  :
    k0_pay49 (iota .tc S256x128 32 [0] iota_S256x128_d0_w32) (iota .tc S256x128 32 [1] iota_S256x128_d1_w32) = maskD 0#32 := rfl

theorem p9 (q : FVec F S256x128 .bf16) :
    k0_pay9 q = shapeCast S256x128 q shapeCasts_S256x128_S256x128 := rfl

theorem p10 (q : FVec F S256x128 .bf16) :
    k0_pay10 q = shapeCast S256x128 q shapeCasts_S256x128_S256x128 := rfl

theorem p11 (q : FVec F S256x128 .bf16) :
    k0_pay11 q = shapeCast S256x128 q shapeCasts_S256x128_S256x128 := rfl

theorem p12 (q : FVec F S256x128 .bf16) :
    k0_pay12 q = shapeCast S256x128 q shapeCasts_S256x128_S256x128 := rfl

theorem p50 (q : FVec F S256x128 .bf16) :
    k0_pay50 q = shapeCast S256x128 q shapeCasts_S256x128_S256x128 := rfl

theorem p51 (q : FVec F S256x128 .bf16) :
    k0_pay51 q = shapeCast S256x128 q shapeCasts_S256x128_S256x128 := rfl

theorem p52 (q : FVec F S256x128 .bf16) :
    k0_pay52 q = shapeCast S256x128 q shapeCasts_S256x128_S256x128 := rfl

theorem p53 (q : FVec F S256x128 .bf16) :
    k0_pay53 q = shapeCast S256x128 q shapeCasts_S256x128_S256x128 := rfl

theorem p13 (k : FVec F S128x128 .bf16) :
    k0_pay13 k = shapeCast S128x128 k shapeCasts_S128x128_S128x128 := rfl

theorem p14 (k : FVec F S128x128 .bf16) :
    k0_pay14 k = shapeCast S128x128 k shapeCasts_S128x128_S128x128 := rfl

theorem p15 (k : FVec F S128x128 .bf16) :
    k0_pay15 k = shapeCast S128x128 k shapeCasts_S128x128_S128x128 := rfl

theorem p16 (k : FVec F S128x128 .bf16) :
    k0_pay16 k = shapeCast S128x128 k shapeCasts_S128x128_S128x128 := rfl

theorem p54 (k : FVec F S128x128 .bf16) :
    k0_pay54 k = shapeCast S128x128 k shapeCasts_S128x128_S128x128 := rfl

theorem p55 (k : FVec F S128x128 .bf16) :
    k0_pay55 k = shapeCast S128x128 k shapeCasts_S128x128_S128x128 := rfl

theorem p56 (k : FVec F S128x128 .bf16) :
    k0_pay56 k = shapeCast S128x128 k shapeCasts_S128x128_S128x128 := rfl

theorem p57 (k : FVec F S128x128 .bf16) :
    k0_pay57 k = shapeCast S128x128 k shapeCasts_S128x128_S128x128 := rfl

theorem p58 (k : FVec F S128x128 .bf16) :
    k0_pay58 k = shapeCast S128x128 k shapeCasts_S128x128_S128x128 := rfl

theorem p59 (k : FVec F S128x128 .bf16) :
    k0_pay59 k = shapeCast S128x128 k shapeCasts_S128x128_S128x128 := rfl

theorem p60 (k : FVec F S128x128 .bf16) :
    k0_pay60 k = shapeCast S128x128 k shapeCasts_S128x128_S128x128 := rfl

theorem p61 (k : FVec F S128x128 .bf16) :
    k0_pay61 k = shapeCast S128x128 k shapeCasts_S128x128_S128x128 := rfl

theorem p17 (q : FVec F S256x128 .bf16)(k : FVec F S128x128 .bf16) :
    k0_pay17 q k = zOf q (shapeCast S128x128 k shapeCasts_S128x128_S128x128) := rfl

theorem p18 (q : FVec F S256x128 .bf16)(k : FVec F S128x128 .bf16) :
    k0_pay18 q k = zOf q (shapeCast S128x128 k shapeCasts_S128x128_S128x128) := rfl

theorem p19 (q : FVec F S256x128 .bf16)(k : FVec F S128x128 .bf16) :
    k0_pay19 q k = zOf q (shapeCast S128x128 k shapeCasts_S128x128_S128x128) := rfl

theorem p20 (q : FVec F S256x128 .bf16)(k : FVec F S128x128 .bf16) :
    k0_pay20 q k = zOf q (shapeCast S128x128 k shapeCasts_S128x128_S128x128) := rfl

theorem p62 (q : FVec F S256x128 .bf16)(k : FVec F S128x128 .bf16) :
    k0_pay62 q k = zOf q k := rfl

theorem p63 (q : FVec F S256x128 .bf16)(k : FVec F S128x128 .bf16) :
    k0_pay63 q k = zOf q k := rfl

theorem p64 (q : FVec F S256x128 .bf16)(k : FVec F S128x128 .bf16) :
    k0_pay64 q k = zOf q k := rfl

theorem p65 (q : FVec F S256x128 .bf16)(k : FVec F S128x128 .bf16) :
    k0_pay65 q k = zOf q k := rfl

theorem p21 (m : IVec S256x128 1)(q : FVec F S256x128 .bf16)(k : FVec F S128x128 .bf16) :
    k0_pay21 m q k = select m (lkOf (zOf q (shapeCast S128x128 k shapeCasts_S128x128_S128x128))) zero2 := rfl

theorem p22 (m : IVec S256x128 1)(z : FVec F S256x128 .f32) :
    k0_pay22 m z (Scalar.ofBits .f32 0x00000000#32) = select m (lkOf z) zero2 := rfl

theorem p23 (m : IVec S256x128 1)(z : FVec F S256x128 .f32) :
    k0_pay23 m z = select m (lkOf z) zero2 := rfl

theorem p24 (m : IVec S256x128 1)(z : FVec F S256x128 .f32) :
    k0_pay24 m z = select m (lkOf z) zero2 := rfl

theorem p70 (m : IVec S256x128 1)(z : FVec F S256x128 .f32) :
    k0_pay70 m z = select m (lkOf z) zero2 := rfl

theorem p66 (m : IVec S256x128 1)(q : FVec F S256x128 .bf16)(k : FVec F S128x128 .bf16) :
    k0_pay66 m q k = select m (lkOf (zOf q k)) zero2 := rfl

theorem p67 (m : IVec S256x128 1)(q : FVec F S256x128 .bf16)(k : FVec F S128x128 .bf16) :
    k0_pay67 m q k = select m (lkOf (zOf q k)) zero2 := rfl

theorem p69 (m : IVec S256x128 1)(q : FVec F S256x128 .bf16)(k : FVec F S128x128 .bf16) :
    k0_pay69 m (k0_pay68 q k) = select m (lkOf (zOf q k)) zero2 := rfl

theorem p28 (u : FVec F S128x256 .bf16)(l : FVec F S256x128 .f32) :
    k0_pay28 u l = csOf u l := rfl

theorem p29 (u : FVec F S128x256 .bf16)(l : FVec F S256x128 .f32) :
    k0_pay29 u l = csOf u l := rfl

theorem p30 (u : FVec F S128x256 .bf16)(l : FVec F S256x128 .f32) :
    k0_pay30 u l = csOf u l := rfl

theorem p71 (u : FVec F S128x256 .bf16)(l : FVec F S256x128 .f32) :
    k0_pay71 u l = csOf u l := rfl

theorem p72 (u : FVec F S128x256 .bf16)(l : FVec F S256x128 .f32) :
    k0_pay72 u l = csOf u l := rfl

theorem p73 (u : FVec F S128x256 .bf16)(m : IVec S256x128 1)(q : FVec F S256x128 .bf16)(k : FVec F S128x128 .bf16) :
    k0_pay73 u m (k0_pay68 q k) = csOf u (select m (lkOf (zOf q k)) zero2) := rfl

theorem p77 (u : FVec F S128x256 .bf16)(m : IVec S256x128 1)(z : FVec F S256x128 .f32) :
    k0_pay77 (k0_pay75 u m z) (k0_pay76 u m z) = csOf u (select m (lkOf z) zero2) := rfl

theorem p33 (u : FVec F S128x256 .bf16)(l : FVec F S256x128 .f32)(x : Vec F S1x256x128 .f32) :
    k0_pay33 u (k0_pay25 l) (k0_pay26 l) x = shapeCast S1x256x128 (cNew u l (shapeCast S256x128 x shapeCasts_S1x256x128_S256x128)) shapeCasts_S256x128_S1x256x128 := rfl

theorem p36 (u : FVec F S128x256 .bf16)(l : FVec F S256x128 .f32)(x : Vec F S1x256x128 .f32) :
    k0_pay36 (csOf u l) (k0_pay34 x) = shapeCast S1x256x128 (cNew u l (shapeCast S256x128 x shapeCasts_S1x256x128_S256x128)) shapeCasts_S256x128_S1x256x128 := rfl

theorem p39 (u : FVec F S128x256 .bf16)(l : FVec F S256x128 .f32)(x : Vec F S1x256x128 .f32) :
    k0_pay39 (csOf u l) x = shapeCast S1x256x128 (cNew u l (shapeCast S256x128 x shapeCasts_S1x256x128_S256x128)) shapeCasts_S256x128_S1x256x128 := rfl

theorem p43 (u : FVec F S128x256 .bf16)(l : FVec F S256x128 .f32)(x : Vec F S1x256x128 .f32) :
    k0_pay43 (k0_pay42 (csOf u l) x) = shapeCast S1x256x128 (cNew u l (shapeCast S256x128 x shapeCasts_S1x256x128_S256x128)) shapeCasts_S256x128_S1x256x128 := rfl

theorem p80 (u : FVec F S128x256 .bf16)(l : FVec F S256x128 .f32)(x : Vec F S1x256x128 .f32) :
    k0_pay80 (csOf u l) x = shapeCast S1x256x128 (cNew u l (shapeCast S256x128 x shapeCasts_S1x256x128_S256x128)) shapeCasts_S256x128_S1x256x128 := rfl

theorem p83 (u : FVec F S128x256 .bf16)(l : FVec F S256x128 .f32)(x : Vec F S1x256x128 .f32) :
    k0_pay83 (csOf u l) x = shapeCast S1x256x128 (cNew u l (shapeCast S256x128 x shapeCasts_S1x256x128_S256x128)) shapeCasts_S256x128_S1x256x128 := rfl

theorem p87 (u : FVec F S128x256 .bf16)(l : FVec F S256x128 .f32)(x : Vec F S1x256x128 .f32) :
    k0_pay87 (csOf u l) (k0_pay84 x) = shapeCast S1x256x128 (cNew u l (shapeCast S256x128 x shapeCasts_S1x256x128_S256x128)) shapeCasts_S256x128_S1x256x128 := rfl

theorem p90 (u : FVec F S128x256 .bf16)(l : FVec F S256x128 .f32)(x : Vec F S1x256x128 .f32) :
    k0_pay90 (csOf u l) x = shapeCast S1x256x128 (cNew u l (shapeCast S256x128 x shapeCasts_S1x256x128_S256x128)) shapeCasts_S256x128_S1x256x128 := rfl

theorem p32 (u : FVec F S128x256 .bf16)(m : IVec S256x128 1)(z : FVec F S256x128 .f32)(l : FVec F S256x128 .f32)(x : Vec F S1x256x128 .f32) :
    k0_pay32 u m z l (k0_pay25 l) (k0_pay26 l) x = truncf .bf16 (select m (eOf u z l (shapeCast S256x128 x shapeCasts_S1x256x128_S256x128)) zero2) bitsLt_bf16_f32 := rfl

theorem p35 (u : FVec F S128x256 .bf16)(m : IVec S256x128 1)(z : FVec F S256x128 .f32)(l : FVec F S256x128 .f32)(x : Vec F S1x256x128 .f32) :
    k0_pay35 m z l (csOf u l) (k0_pay34 x) = truncf .bf16 (select m (eOf u z l (shapeCast S256x128 x shapeCasts_S1x256x128_S256x128)) zero2) bitsLt_bf16_f32 := rfl

theorem p38 (u : FVec F S128x256 .bf16)(m : IVec S256x128 1)(z : FVec F S256x128 .f32)(l : FVec F S256x128 .f32)(x : Vec F S1x256x128 .f32) :
    k0_pay38 m z l (csOf u l) x = truncf .bf16 (select m (eOf u z l (shapeCast S256x128 x shapeCasts_S1x256x128_S256x128)) zero2) bitsLt_bf16_f32 := rfl

theorem p41 (u : FVec F S128x256 .bf16)(m : IVec S256x128 1)(z : FVec F S256x128 .f32)(l : FVec F S256x128 .f32)(x : Vec F S1x256x128 .f32) :
    k0_pay41 m z l (csOf u l) x = truncf .bf16 (select m (eOf u z l (shapeCast S256x128 x shapeCasts_S1x256x128_S256x128)) zero2) bitsLt_bf16_f32 := rfl

theorem p79 (u : FVec F S128x256 .bf16)(m : IVec S256x128 1)(z : FVec F S256x128 .f32)(l : FVec F S256x128 .f32)(x : Vec F S1x256x128 .f32) :
    k0_pay79 m z l (csOf u l) x = truncf .bf16 (select m (eOf u z l (shapeCast S256x128 x shapeCasts_S1x256x128_S256x128)) zero2) bitsLt_bf16_f32 := rfl

theorem p82 (u : FVec F S128x256 .bf16)(m : IVec S256x128 1)(z : FVec F S256x128 .f32)(l : FVec F S256x128 .f32)(x : Vec F S1x256x128 .f32) :
    k0_pay82 m z l (csOf u l) x = truncf .bf16 (select m (eOf u z l (shapeCast S256x128 x shapeCasts_S1x256x128_S256x128)) zero2) bitsLt_bf16_f32 := rfl

theorem p86 (u : FVec F S128x256 .bf16)(m : IVec S256x128 1)(z : FVec F S256x128 .f32)(l : FVec F S256x128 .f32)(x : Vec F S1x256x128 .f32) :
    k0_pay86 (k0_pay85 m z l (csOf u l) x) = truncf .bf16 (select m (eOf u z l (shapeCast S256x128 x shapeCasts_S1x256x128_S256x128)) zero2) bitsLt_bf16_f32 := rfl

theorem p89 (u : FVec F S128x256 .bf16)(m : IVec S256x128 1)(z : FVec F S256x128 .f32)(l : FVec F S256x128 .f32)(x : Vec F S1x256x128 .f32) :
    k0_pay89 m z l (csOf u l) x = truncf .bf16 (select m (eOf u z l (shapeCast S256x128 x shapeCasts_S1x256x128_S256x128)) zero2) bitsLt_bf16_f32 := rfl

theorem p44 (a : FVec F S256x128 .bf16)(v : FVec F S128x128 .bf16)(x : Vec F S1x256x128 .f32) :
    k0_pay44 v a x = shapeCast S1x256x128 (accNew a v (shapeCast S256x128 x shapeCasts_S1x256x128_S256x128)) shapeCasts_S256x128_S1x256x128 := rfl

theorem p45 (a : FVec F S256x128 .bf16)(v : FVec F S128x128 .bf16)(x : Vec F S1x256x128 .f32) :
    k0_pay45 v a x = shapeCast S1x256x128 (accNew a v (shapeCast S256x128 x shapeCasts_S1x256x128_S256x128)) shapeCasts_S256x128_S1x256x128 := rfl

theorem p46 (a : FVec F S256x128 .bf16)(v : FVec F S128x128 .bf16)(x : Vec F S1x256x128 .f32) :
    k0_pay46 v a x = shapeCast S1x256x128 (accNew a v (shapeCast S256x128 x shapeCasts_S1x256x128_S256x128)) shapeCasts_S256x128_S1x256x128 := rfl

theorem p48 (a : FVec F S256x128 .bf16)(v : FVec F S128x128 .bf16)(x : Vec F S1x256x128 .f32) :
    k0_pay48 (k0_pay47 v a x) = shapeCast S1x256x128 (accNew a v (shapeCast S256x128 x shapeCasts_S1x256x128_S256x128)) shapeCasts_S256x128_S1x256x128 := rfl

theorem p91 (a : FVec F S256x128 .bf16)(v : FVec F S128x128 .bf16)(x : Vec F S1x256x128 .f32) :
    k0_pay91 v a x = shapeCast S1x256x128 (accNew a v (shapeCast S256x128 x shapeCasts_S1x256x128_S256x128)) shapeCasts_S256x128_S1x256x128 := rfl

theorem p93 (a : FVec F S256x128 .bf16)(v : FVec F S128x128 .bf16)(x : Vec F S1x256x128 .f32) :
    k0_pay93 (k0_pay92 v a x) = shapeCast S1x256x128 (accNew a v (shapeCast S256x128 x shapeCasts_S1x256x128_S256x128)) shapeCasts_S256x128_S1x256x128 := rfl

theorem p94 (a : FVec F S256x128 .bf16)(v : FVec F S128x128 .bf16)(x : Vec F S1x256x128 .f32) :
    k0_pay94 v a x = shapeCast S1x256x128 (accNew a v (shapeCast S256x128 x shapeCasts_S1x256x128_S256x128)) shapeCasts_S256x128_S1x256x128 := rfl

theorem p95 (a : FVec F S256x128 .bf16)(v : FVec F S128x128 .bf16)(x : Vec F S1x256x128 .f32) :
    k0_pay95 v a x = shapeCast S1x256x128 (accNew a v (shapeCast S256x128 x shapeCasts_S1x256x128_S256x128)) shapeCasts_S256x128_S1x256x128 := rfl

theorem payC10 (q : FVec F S256x128 .bf16) (k : FVec F S128x128 .bf16) (x : Vec F S1x256x128 .f32) :
    k0_pay33 (k0_pay7 (F := F)) (k0_pay25 (k0_pay21 k0_pay8 (k0_pay9 q) k)) (k0_pay26 (k0_pay21 k0_pay8 (k0_pay9 q) k)) x
    = shapeCast S1x256x128 (cNew u2 (select (maskD 128#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p8, p9, p21, p33]

theorem payA10 (q : FVec F S256x128 .bf16) (k : FVec F S128x128 .bf16) (v : FVec F S128x128 .bf16) (x : Vec F S1x256x128 .f32) (y : Vec F S1x256x128 .f32) :
    k0_pay44 (k0_pay13 v) (k0_pay32 (k0_pay7 (F := F)) k0_pay8 (k0_pay17 (k0_pay9 q) k) (k0_pay21 k0_pay8 (k0_pay9 q) k) (k0_pay25 (k0_pay21 k0_pay8 (k0_pay9 q) k)) (k0_pay26 (k0_pay21 k0_pay8 (k0_pay9 q) k)) x) y
    = shapeCast S1x256x128 (accNew (truncf .bf16 (select (maskD 128#32) (eOf u2 (zOf (shapeCast S256x128 q shapeCasts_S256x128_S256x128) (shapeCast S128x128 k shapeCasts_S128x128_S128x128)) (select (maskD 128#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p8, p9, p13, p17, p21, p32, p44]

theorem payC11 (q : FVec F S256x128 .bf16) (k : FVec F S128x128 .bf16) (x : Vec F S1x256x128 .f32) :
    k0_pay36 (k0_pay28 (k0_pay7 (F := F)) (k0_pay22 k0_pay8 (k0_pay18 (k0_pay10 q) k) (Scalar.ofBits .f32 0x00000000#32))) (k0_pay34 x)
    = shapeCast S1x256x128 (cNew u2 (select (maskD 128#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p8, p10, p18, p22, p28, p36]

theorem payA11 (q : FVec F S256x128 .bf16) (k : FVec F S128x128 .bf16) (v : FVec F S128x128 .bf16) (x : Vec F S1x256x128 .f32) (y : Vec F S1x256x128 .f32) :
    k0_pay45 (k0_pay14 v) (k0_pay35 k0_pay8 (k0_pay18 (k0_pay10 q) k) (k0_pay22 k0_pay8 (k0_pay18 (k0_pay10 q) k) (Scalar.ofBits .f32 0x00000000#32)) (k0_pay28 (k0_pay7 (F := F)) (k0_pay22 k0_pay8 (k0_pay18 (k0_pay10 q) k) (Scalar.ofBits .f32 0x00000000#32))) (k0_pay34 x)) y
    = shapeCast S1x256x128 (accNew (truncf .bf16 (select (maskD 128#32) (eOf u2 (zOf (shapeCast S256x128 q shapeCasts_S256x128_S256x128) (shapeCast S128x128 k shapeCasts_S128x128_S128x128)) (select (maskD 128#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p8, p10, p14, p18, p22, p28, p35, p45]

theorem payC12 (q : FVec F S256x128 .bf16) (k : FVec F S128x128 .bf16) (x : Vec F S1x256x128 .f32) :
    k0_pay39 (k0_pay29 (k0_pay7 (F := F)) (k0_pay23 k0_pay8 (k0_pay19 (k0_pay11 q) k))) x
    = shapeCast S1x256x128 (cNew u2 (select (maskD 128#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p8, p11, p19, p23, p29, p39]

theorem payA12 (q : FVec F S256x128 .bf16) (k : FVec F S128x128 .bf16) (v : FVec F S128x128 .bf16) (x : Vec F S1x256x128 .f32) (y : Vec F S1x256x128 .f32) :
    k0_pay46 (k0_pay15 v) (k0_pay38 k0_pay8 (k0_pay19 (k0_pay11 q) k) (k0_pay23 k0_pay8 (k0_pay19 (k0_pay11 q) k)) (k0_pay29 (k0_pay7 (F := F)) (k0_pay23 k0_pay8 (k0_pay19 (k0_pay11 q) k))) x) y
    = shapeCast S1x256x128 (accNew (truncf .bf16 (select (maskD 128#32) (eOf u2 (zOf (shapeCast S256x128 q shapeCasts_S256x128_S256x128) (shapeCast S128x128 k shapeCasts_S128x128_S128x128)) (select (maskD 128#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p8, p11, p15, p19, p23, p29, p38, p46]

theorem payC13 (q : FVec F S256x128 .bf16) (k : FVec F S128x128 .bf16) (x : Vec F S1x256x128 .f32) :
    k0_pay43 (k0_pay42 (k0_pay30 (k0_pay7 (F := F)) (k0_pay24 k0_pay8 (k0_pay20 (k0_pay12 q) k))) x)
    = shapeCast S1x256x128 (cNew u2 (select (maskD 128#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p8, p12, p20, p24, p30, p43]

theorem payA13 (q : FVec F S256x128 .bf16) (k : FVec F S128x128 .bf16) (v : FVec F S128x128 .bf16) (x : Vec F S1x256x128 .f32) (y : Vec F S1x256x128 .f32) :
    k0_pay48 (k0_pay47 (k0_pay16 v) (k0_pay41 k0_pay8 (k0_pay20 (k0_pay12 q) k) (k0_pay24 k0_pay8 (k0_pay20 (k0_pay12 q) k)) (k0_pay30 (k0_pay7 (F := F)) (k0_pay24 k0_pay8 (k0_pay20 (k0_pay12 q) k))) x) y)
    = shapeCast S1x256x128 (accNew (truncf .bf16 (select (maskD 128#32) (eOf u2 (zOf (shapeCast S256x128 q shapeCasts_S256x128_S256x128) (shapeCast S128x128 k shapeCasts_S128x128_S128x128)) (select (maskD 128#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p8, p12, p16, p20, p24, p30, p41, p48]

theorem payC00 (q : FVec F S256x128 .bf16) (k : FVec F S128x128 .bf16) (x : Vec F S1x256x128 .f32) :
    k0_pay80 (k0_pay71 (k0_pay7 (F := F)) (k0_pay66 (k0_pay49 (iota .tc S256x128 32 [0] iota_S256x128_d0_w32) (iota .tc S256x128 32 [1] iota_S256x128_d1_w32)) (k0_pay50 q) (k0_pay54 k))) x
    = shapeCast S1x256x128 (cNew u2 (select (maskD 0#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p50, p54, p66, p71, p80]
  rfl

theorem payA00 (q : FVec F S256x128 .bf16) (k : FVec F S128x128 .bf16) (v : FVec F S128x128 .bf16) (x : Vec F S1x256x128 .f32) (y : Vec F S1x256x128 .f32) :
    k0_pay91 (k0_pay58 v) (k0_pay79 (k0_pay49 (iota .tc S256x128 32 [0] iota_S256x128_d0_w32) (iota .tc S256x128 32 [1] iota_S256x128_d1_w32)) (k0_pay62 (k0_pay50 q) (k0_pay54 k)) (k0_pay66 (k0_pay49 (iota .tc S256x128 32 [0] iota_S256x128_d0_w32) (iota .tc S256x128 32 [1] iota_S256x128_d1_w32)) (k0_pay50 q) (k0_pay54 k)) (k0_pay71 (k0_pay7 (F := F)) (k0_pay66 (k0_pay49 (iota .tc S256x128 32 [0] iota_S256x128_d0_w32) (iota .tc S256x128 32 [1] iota_S256x128_d1_w32)) (k0_pay50 q) (k0_pay54 k))) x) y
    = shapeCast S1x256x128 (accNew (truncf .bf16 (select (maskD 0#32) (eOf u2 (zOf (shapeCast S256x128 q shapeCasts_S256x128_S256x128) (shapeCast S128x128 k shapeCasts_S128x128_S128x128)) (select (maskD 0#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p50, p54, p58, p62, p66, p71, p79, p91]
  rfl

theorem payC01 (q : FVec F S256x128 .bf16) (k : FVec F S128x128 .bf16) (x : Vec F S1x256x128 .f32) :
    k0_pay83 (k0_pay72 (k0_pay7 (F := F)) (k0_pay67 (k0_pay49 (iota .tc S256x128 32 [0] iota_S256x128_d0_w32) (iota .tc S256x128 32 [1] iota_S256x128_d1_w32)) (k0_pay51 q) (k0_pay55 k))) x
    = shapeCast S1x256x128 (cNew u2 (select (maskD 0#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p51, p55, p67, p72, p83]
  rfl

theorem payA01 (q : FVec F S256x128 .bf16) (k : FVec F S128x128 .bf16) (v : FVec F S128x128 .bf16) (x : Vec F S1x256x128 .f32) (y : Vec F S1x256x128 .f32) :
    k0_pay93 (k0_pay92 (k0_pay59 v) (k0_pay82 (k0_pay49 (iota .tc S256x128 32 [0] iota_S256x128_d0_w32) (iota .tc S256x128 32 [1] iota_S256x128_d1_w32)) (k0_pay63 (k0_pay51 q) (k0_pay55 k)) (k0_pay67 (k0_pay49 (iota .tc S256x128 32 [0] iota_S256x128_d0_w32) (iota .tc S256x128 32 [1] iota_S256x128_d1_w32)) (k0_pay51 q) (k0_pay55 k)) (k0_pay72 (k0_pay7 (F := F)) (k0_pay67 (k0_pay49 (iota .tc S256x128 32 [0] iota_S256x128_d0_w32) (iota .tc S256x128 32 [1] iota_S256x128_d1_w32)) (k0_pay51 q) (k0_pay55 k))) x) y)
    = shapeCast S1x256x128 (accNew (truncf .bf16 (select (maskD 0#32) (eOf u2 (zOf (shapeCast S256x128 q shapeCasts_S256x128_S256x128) (shapeCast S128x128 k shapeCasts_S128x128_S128x128)) (select (maskD 0#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p51, p55, p59, p63, p67, p72, p82, p93]
  rfl

theorem payC02 (q : FVec F S256x128 .bf16) (k : FVec F S128x128 .bf16) (x : Vec F S1x256x128 .f32) :
    k0_pay87 (k0_pay73 (k0_pay7 (F := F)) (k0_pay49 (iota .tc S256x128 32 [0] iota_S256x128_d0_w32) (iota .tc S256x128 32 [1] iota_S256x128_d1_w32)) (k0_pay68 (k0_pay52 q) (k0_pay56 k))) (k0_pay84 x)
    = shapeCast S1x256x128 (cNew u2 (select (maskD 0#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p52, p56, p73, p87]
  rfl

theorem payA02 (q : FVec F S256x128 .bf16) (k : FVec F S128x128 .bf16) (v : FVec F S128x128 .bf16) (x : Vec F S1x256x128 .f32) (y : Vec F S1x256x128 .f32) :
    k0_pay94 (k0_pay60 v) (k0_pay86 (k0_pay85 (k0_pay49 (iota .tc S256x128 32 [0] iota_S256x128_d0_w32) (iota .tc S256x128 32 [1] iota_S256x128_d1_w32)) (k0_pay64 (k0_pay52 q) (k0_pay56 k)) (k0_pay69 (k0_pay49 (iota .tc S256x128 32 [0] iota_S256x128_d0_w32) (iota .tc S256x128 32 [1] iota_S256x128_d1_w32)) (k0_pay68 (k0_pay52 q) (k0_pay56 k))) (k0_pay73 (k0_pay7 (F := F)) (k0_pay49 (iota .tc S256x128 32 [0] iota_S256x128_d0_w32) (iota .tc S256x128 32 [1] iota_S256x128_d1_w32)) (k0_pay68 (k0_pay52 q) (k0_pay56 k))) x)) y
    = shapeCast S1x256x128 (accNew (truncf .bf16 (select (maskD 0#32) (eOf u2 (zOf (shapeCast S256x128 q shapeCasts_S256x128_S256x128) (shapeCast S128x128 k shapeCasts_S128x128_S128x128)) (select (maskD 0#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p52, p56, p60, p64, p69, p73, p86, p94]
  rfl

theorem payC03 (q : FVec F S256x128 .bf16) (k : FVec F S128x128 .bf16) (x : Vec F S1x256x128 .f32) :
    k0_pay90 (k0_pay77 (k0_pay75 (k0_pay7 (F := F)) (k0_pay49 (iota .tc S256x128 32 [0] iota_S256x128_d0_w32) (iota .tc S256x128 32 [1] iota_S256x128_d1_w32)) (k0_pay65 (k0_pay53 q) (k0_pay57 k))) (k0_pay76 (k0_pay7 (F := F)) (k0_pay49 (iota .tc S256x128 32 [0] iota_S256x128_d0_w32) (iota .tc S256x128 32 [1] iota_S256x128_d1_w32)) (k0_pay65 (k0_pay53 q) (k0_pay57 k)))) x
    = shapeCast S1x256x128 (cNew u2 (select (maskD 0#32) (lkOf (zOf (shapeCast S256x128 q shapeCasts_S256x128_S256x128) (shapeCast S128x128 k shapeCasts_S128x128_S128x128))) zero2) (shapeCast S256x128 x shapeCasts_S1x256x128_S256x128)) shapeCasts_S256x128_S1x256x128 := by
  simp only [p7, p53, p57, p65, p77, p90]
  rfl

theorem payA03 (q : FVec F S256x128 .bf16) (k : FVec F S128x128 .bf16) (v : FVec F S128x128 .bf16) (x : Vec F S1x256x128 .f32) (y : Vec F S1x256x128 .f32) :
    k0_pay95 (k0_pay61 v) (k0_pay89 (k0_pay49 (iota .tc S256x128 32 [0] iota_S256x128_d0_w32) (iota .tc S256x128 32 [1] iota_S256x128_d1_w32)) (k0_pay65 (k0_pay53 q) (k0_pay57 k)) (k0_pay70 (k0_pay49 (iota .tc S256x128 32 [0] iota_S256x128_d0_w32) (iota .tc S256x128 32 [1] iota_S256x128_d1_w32)) (k0_pay65 (k0_pay53 q) (k0_pay57 k))) (k0_pay77 (k0_pay75 (k0_pay7 (F := F)) (k0_pay49 (iota .tc S256x128 32 [0] iota_S256x128_d0_w32) (iota .tc S256x128 32 [1] iota_S256x128_d1_w32)) (k0_pay65 (k0_pay53 q) (k0_pay57 k))) (k0_pay76 (k0_pay7 (F := F)) (k0_pay49 (iota .tc S256x128 32 [0] iota_S256x128_d0_w32) (iota .tc S256x128 32 [1] iota_S256x128_d1_w32)) (k0_pay65 (k0_pay53 q) (k0_pay57 k)))) x) y
    = shapeCast S1x256x128 (accNew (truncf .bf16 (select (maskD 0#32) (eOf u2 (zOf (shapeCast S256x128 q shapeCasts_S256x128_S256x128) (shapeCast S128x128 k shapeCasts_S128x128_S128x128)) (select (maskD 0#32) (lkOf (zOf (shapeCast S256x128 q shapeCasts_S256x128_S256x128) (shapeCast S128x128 k shapeCasts_S128x128_S128x128))) zero2) (shapeCast S256x128 x shapeCasts_S1x256x128_S256x128)) zero2) bitsLt_bf16_f32) (shapeCast S128x128 v shapeCasts_S128x128_S128x128) (shapeCast S256x128 y shapeCasts_S1x256x128_S256x128)) shapeCasts_S256x128_S1x256x128 := by
  simp only [p7, p53, p57, p61, p65, p70, p77, p89, p95]
  rfl

end Cert.Proof.SB

end
-- ==== Proof.SB.Body.lean ====
/-
  The kernel body: the two chunks inside the query block under their masks, the walk over the chunks before it, and the
  four heads' accumulators into the result's block.
-/
module

public import proofs.«01_k».proof.Proof.SB.Loop
public import proofs.«01_k».proof.Proof.SB.Pay

@[expose] public section

set_option maxRecDepth 16384

noncomputable section

namespace Cert.Proof.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

set_option maxHeartbeats 1000000 in
/-- The body. -/
theorem body (c : Dev nD) (i : grid0.Coords) (arg2 : Memref sig .tc .vmem S256x512 .bf16) (harg2 : arg2.IsWhole)
    (arg3 : Memref sig .tc .vmem S8192x512 .bf16) (harg3 : arg3.IsWhole) (arg4 : Memref sig .tc .vmem S8192x512 .bf16) (harg4 : arg4.IsWhole)
    (arg5 : Memref sig .tc .vmem S256x512 .bf16) (harg5 : arg5.IsWhole)
    (arg6 : Memref sig .tc .vmem S4x256x128 .f32) (harg6 : arg6.IsWhole) (arg7 : Memref sig .tc .vmem S4x256x128 .f32) (harg7 : arg7.IsWhole)
    (Q : Vec F S256x512 .bf16) (KK VV : Vec F S8192x512 .bf16) (X5 : Vec F S256x512 .bf16) (X6 X7 : Vec F S4x256x128 .f32)
    (K : PUnit → sProp 𝕄) :
    iprop((owns (c : Thread nD τ) arg2 fullShare Q ∗ owns (c : Thread nD τ) arg3 fullShare KK ∗ owns (c : Thread nD τ) arg4 fullShare VV
        ∗ owns (c : Thread nD τ) arg5 fullShare X5 ∗ owns (c : Thread nD τ) arg6 fullShare X6 ∗ owns (c : Thread nD τ) arg7 fullShare X7)
      ∗ (∀ Y6 Y7, (owns (c : Thread nD τ) arg2 fullShare Q ∗ owns (c : Thread nD τ) arg3 fullShare KK ∗ owns (c : Thread nD τ) arg4 fullShare VV
        ∗ owns (c : Thread nD τ) arg5 fullShare (outBlk Q KK VV (i 1).val) ∗ owns (c : Thread nD τ) arg6 fullShare Y6 ∗ owns (c : Thread nD τ) arg7 fullShare Y7) -∗ K ⟨⟩))
      ⊢ wp frame (wpE (defs₀ (F := F)) 𝒱₀ (c : Thread nD τ) none) Set.univ
        (cc0_sb_prompt (F := F) i arg2 harg2 arg3 harg3 arg4 harg4 arg5 harg5 arg6 harg6 arg7 harg7) K := by
  simp only [cc0_sb_prompt_eq_skeleton]
  unfold cc0_sb_prompt_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  have hi : (i 1).val < 32 := (i 1).isLt
  have hi1 : 2 * (i 1).val + 1 < 64 := by omega
  have hi0 : 2 * (i 1).val < 64 := by omega
  have hi63 : 2 * (i 1).val ≤ 63 := by omega
  let s1 := stepD (maskD 128#32) u2 Q KK VV (2 * (i 1).val + 1) σ0
  let s2 := stepD (maskD 0#32) u2 Q KK VV (2 * (i 1).val) s1
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  have hq : ∀ h : Fin 4, ∀ o, o = 128 * h.val → ∀ inb, _ := readQ arg2 f2 Q hf2
  have hk1 : ∀ h : Fin 4, ∀ off, off = ![128 * (2 * (i 1).val + 1), 128 * h.val] → ∀ inb, _ := readK arg3 f3 KK hf3 (2 * (i 1).val + 1) hi1
  have hk0 : ∀ h : Fin 4, ∀ off, off = ![128 * (2 * (i 1).val), 128 * h.val] → ∀ inb, _ := readK arg3 f3 KK hf3 (2 * (i 1).val) hi0
  have hv1 : ∀ h : Fin 4, ∀ off, off = ![128 * (2 * (i 1).val + 1), 128 * h.val] → ∀ inb, _ := readK arg4 f4 VV hf4 (2 * (i 1).val + 1) hi1
  have hv0 : ∀ h : Fin 4, ∀ off, off = ![128 * (2 * (i 1).val), 128 * h.val] → ∀ inb, _ := readK arg4 f4 VV hf4 (2 * (i 1).val) hi0
  sl_exec
  have R7_1 : Rd arg7 (body.sl.H7_1 (F := F)) (mix 0 s1.c σ0.c) := Rd.zero arg7 _ inb_S4x256x128_S4x256x128_0_0_0 pay6_eq
  have R7_2 : Rd arg7 (body.sl.H7_2 c i arg2 arg3 arg7 f2 f3) (mix 1 s1.c σ0.c) :=
    Rd.put 0 0 rfl R7_1 inb_S4x256x128_S1x256x128_0_0_0 _ ((payC10 _ _ _).trans (headCD u2 Q KK VV (maskD 128#32) (2 * (i 1).val + 1) σ0 0 (hq 0 0 rfl inb_S256x512_S256x128_0_0) (hk1 0 _ ((offA i).1) (k0_off1_inb i 1)) (Rd.cur 0 0 rfl R7_1 inb_S4x256x128_S1x256x128_0_0_0)))
  have R7_3 : Rd arg7 (body.sl.H7_3 c i arg2 arg3 arg7 f2 f3) (mix 2 s1.c σ0.c) :=
    Rd.put 1 1 rfl R7_2 inb_S4x256x128_S1x256x128_1_0_0 _ ((payC11 _ _ _).trans (headCD u2 Q KK VV (maskD 128#32) (2 * (i 1).val + 1) σ0 1 (hq 1 128 rfl inb_S256x512_S256x128_0_128) (hk1 1 _ ((offA i).2.1) (k0_off2_inb i 1)) (Rd.cur 1 1 rfl R7_2 inb_S4x256x128_S1x256x128_1_0_0)))
  have R7_4 : Rd arg7 (body.sl.H7_4 c i arg2 arg3 arg7 f2 f3) (mix 3 s1.c σ0.c) :=
    Rd.put 2 2 rfl R7_3 inb_S4x256x128_S1x256x128_2_0_0 _ ((payC12 _ _ _).trans (headCD u2 Q KK VV (maskD 128#32) (2 * (i 1).val + 1) σ0 2 (hq 2 256 rfl inb_S256x512_S256x128_0_256) (hk1 2 _ ((offA i).2.2.1) (k0_off3_inb i 1)) (Rd.cur 2 2 rfl R7_3 inb_S4x256x128_S1x256x128_2_0_0)))
  have R7_5 : Rd arg7 (body.sl.H7_5 c i arg2 arg3 arg7 f2 f3) (mix (3 + 1) s1.c σ0.c) :=
    Rd.put 3 3 rfl R7_4 inb_S4x256x128_S1x256x128_3_0_0 _ ((payC13 _ _ _).trans (headCD u2 Q KK VV (maskD 128#32) (2 * (i 1).val + 1) σ0 3 (hq 3 384 rfl inb_S256x512_S256x128_0_384) (hk1 3 _ ((offA i).2.2.2) (k0_off4_inb i 1)) (Rd.cur 3 3 rfl R7_4 inb_S4x256x128_S1x256x128_3_0_0)))
  have R7_5 : Rd arg7 (body.sl.H7_5 c i arg2 arg3 arg7 f2 f3) (mix 0 s2.c s1.c) := Rd.next s2.c R7_5
  have R7_6 : Rd arg7 (body.sl.H7_6 c i arg2 arg3 arg7 f2 f3) (mix 1 s2.c s1.c) :=
    Rd.put 0 0 rfl R7_5 inb_S4x256x128_S1x256x128_0_0_0 _ ((payC00 _ _ _).trans (headCD u2 Q KK VV (maskD 0#32) (2 * (i 1).val) s1 0 (hq 0 0 rfl inb_S256x512_S256x128_0_0) (hk0 0 _ ((offB i).1) (k0_off1_inb i 0)) (Rd.cur 0 0 rfl R7_5 inb_S4x256x128_S1x256x128_0_0_0)))
  have R7_7 : Rd arg7 (body.sl.H7_7 c i arg2 arg3 arg7 f2 f3) (mix 2 s2.c s1.c) :=
    Rd.put 1 1 rfl R7_6 inb_S4x256x128_S1x256x128_1_0_0 _ ((payC01 _ _ _).trans (headCD u2 Q KK VV (maskD 0#32) (2 * (i 1).val) s1 1 (hq 1 128 rfl inb_S256x512_S256x128_0_128) (hk0 1 _ ((offB i).2.1) (k0_off2_inb i 0)) (Rd.cur 1 1 rfl R7_6 inb_S4x256x128_S1x256x128_1_0_0)))
  have R7_8 : Rd arg7 (body.sl.H7_8 c i arg2 arg3 arg7 f2 f3) (mix 3 s2.c s1.c) :=
    Rd.put 2 2 rfl R7_7 inb_S4x256x128_S1x256x128_2_0_0 _ ((payC02 _ _ _).trans (headCD u2 Q KK VV (maskD 0#32) (2 * (i 1).val) s1 2 (hq 2 256 rfl inb_S256x512_S256x128_0_256) (hk0 2 _ ((offB i).2.2.1) (k0_off3_inb i 0)) (Rd.cur 2 2 rfl R7_7 inb_S4x256x128_S1x256x128_2_0_0)))
  have R7_9 : Rd arg7 (body.sl.H7_9 c i arg2 arg3 arg7 f2 f3) (mix (3 + 1) s2.c s1.c) :=
    Rd.put 3 3 rfl R7_8 inb_S4x256x128_S1x256x128_3_0_0 _ ((payC03 _ _ _).trans (headCD u2 Q KK VV (maskD 0#32) (2 * (i 1).val) s1 3 (hq 3 384 rfl inb_S256x512_S256x128_0_384) (hk0 3 _ ((offB i).2.2.2) (k0_off4_inb i 0)) (Rd.cur 3 3 rfl R7_8 inb_S4x256x128_S1x256x128_3_0_0)))
  have R7_9 : Rd arg7 (body.sl.H7_9 c i arg2 arg3 arg7 f2 f3) s2.c := R7_9.done
  have R6_1 : Rd arg6 (body.sl.H6_1 (F := F)) (mix 0 s1.acc σ0.acc) := Rd.zero arg6 _ inb_S4x256x128_S4x256x128_0_0_0 pay5_eq
  have R6_2 : Rd arg6 (body.sl.H6_2 c i arg2 arg3 arg4 arg6 arg7 f2 f3 f4) (mix 1 s1.acc σ0.acc) :=
    Rd.put 0 0 rfl R6_1 inb_S4x256x128_S1x256x128_0_0_0 _ ((payA10 _ _ _ _ _).trans (headAccD u2 Q KK VV (maskD 128#32) (2 * (i 1).val + 1) σ0 0 (hq 0 0 rfl inb_S256x512_S256x128_0_0) (hk1 0 _ ((offA i).1) (k0_off1_inb i 1)) (hv1 0 _ ((offA i).1) (k0_off1_inb i 1)) (Rd.cur 0 0 rfl R6_1 inb_S4x256x128_S1x256x128_0_0_0) (Rd.cur 0 0 rfl R7_1 inb_S4x256x128_S1x256x128_0_0_0)))
  have R6_3 : Rd arg6 (body.sl.H6_3 c i arg2 arg3 arg4 arg6 arg7 f2 f3 f4) (mix 2 s1.acc σ0.acc) :=
    Rd.put 1 1 rfl R6_2 inb_S4x256x128_S1x256x128_1_0_0 _ ((payA11 _ _ _ _ _).trans (headAccD u2 Q KK VV (maskD 128#32) (2 * (i 1).val + 1) σ0 1 (hq 1 128 rfl inb_S256x512_S256x128_0_128) (hk1 1 _ ((offA i).2.1) (k0_off2_inb i 1)) (hv1 1 _ ((offA i).2.1) (k0_off2_inb i 1)) (Rd.cur 1 1 rfl R6_2 inb_S4x256x128_S1x256x128_1_0_0) (Rd.cur 1 1 rfl R7_2 inb_S4x256x128_S1x256x128_1_0_0)))
  have R6_4 : Rd arg6 (body.sl.H6_4 c i arg2 arg3 arg4 arg6 arg7 f2 f3 f4) (mix 3 s1.acc σ0.acc) :=
    Rd.put 2 2 rfl R6_3 inb_S4x256x128_S1x256x128_2_0_0 _ ((payA12 _ _ _ _ _).trans (headAccD u2 Q KK VV (maskD 128#32) (2 * (i 1).val + 1) σ0 2 (hq 2 256 rfl inb_S256x512_S256x128_0_256) (hk1 2 _ ((offA i).2.2.1) (k0_off3_inb i 1)) (hv1 2 _ ((offA i).2.2.1) (k0_off3_inb i 1)) (Rd.cur 2 2 rfl R6_3 inb_S4x256x128_S1x256x128_2_0_0) (Rd.cur 2 2 rfl R7_3 inb_S4x256x128_S1x256x128_2_0_0)))
  have R6_5 : Rd arg6 (body.sl.H6_5 c i arg2 arg3 arg4 arg6 arg7 f2 f3 f4) (mix (3 + 1) s1.acc σ0.acc) :=
    Rd.put 3 3 rfl R6_4 inb_S4x256x128_S1x256x128_3_0_0 _ ((payA13 _ _ _ _ _).trans (headAccD u2 Q KK VV (maskD 128#32) (2 * (i 1).val + 1) σ0 3 (hq 3 384 rfl inb_S256x512_S256x128_0_384) (hk1 3 _ ((offA i).2.2.2) (k0_off4_inb i 1)) (hv1 3 _ ((offA i).2.2.2) (k0_off4_inb i 1)) (Rd.cur 3 3 rfl R6_4 inb_S4x256x128_S1x256x128_3_0_0) (Rd.cur 3 3 rfl R7_4 inb_S4x256x128_S1x256x128_3_0_0)))
  have R6_5 : Rd arg6 (body.sl.H6_5 c i arg2 arg3 arg4 arg6 arg7 f2 f3 f4) (mix 0 s2.acc s1.acc) := Rd.next s2.acc R6_5
  have R6_6 : Rd arg6 (body.sl.H6_6 c i arg2 arg3 arg4 arg6 arg7 f2 f3 f4) (mix 1 s2.acc s1.acc) :=
    Rd.put 0 0 rfl R6_5 inb_S4x256x128_S1x256x128_0_0_0 _ ((payA00 _ _ _ _ _).trans (headAccD u2 Q KK VV (maskD 0#32) (2 * (i 1).val) s1 0 (hq 0 0 rfl inb_S256x512_S256x128_0_0) (hk0 0 _ ((offB i).1) (k0_off1_inb i 0)) (hv0 0 _ ((offB i).1) (k0_off1_inb i 0)) (Rd.cur 0 0 rfl R6_5 inb_S4x256x128_S1x256x128_0_0_0) (Rd.cur 0 0 rfl R7_5 inb_S4x256x128_S1x256x128_0_0_0)))
  have R6_7 : Rd arg6 (body.sl.H6_7 c i arg2 arg3 arg4 arg6 arg7 f2 f3 f4) (mix 2 s2.acc s1.acc) :=
    Rd.put 1 1 rfl R6_6 inb_S4x256x128_S1x256x128_1_0_0 _ ((payA01 _ _ _ _ _).trans (headAccD u2 Q KK VV (maskD 0#32) (2 * (i 1).val) s1 1 (hq 1 128 rfl inb_S256x512_S256x128_0_128) (hk0 1 _ ((offB i).2.1) (k0_off2_inb i 0)) (hv0 1 _ ((offB i).2.1) (k0_off2_inb i 0)) (Rd.cur 1 1 rfl R6_6 inb_S4x256x128_S1x256x128_1_0_0) (Rd.cur 1 1 rfl R7_6 inb_S4x256x128_S1x256x128_1_0_0)))
  have R6_8 : Rd arg6 (body.sl.H6_8 c i arg2 arg3 arg4 arg6 arg7 f2 f3 f4) (mix 3 s2.acc s1.acc) :=
    Rd.put 2 2 rfl R6_7 inb_S4x256x128_S1x256x128_2_0_0 _ ((payA02 _ _ _ _ _).trans (headAccD u2 Q KK VV (maskD 0#32) (2 * (i 1).val) s1 2 (hq 2 256 rfl inb_S256x512_S256x128_0_256) (hk0 2 _ ((offB i).2.2.1) (k0_off3_inb i 0)) (hv0 2 _ ((offB i).2.2.1) (k0_off3_inb i 0)) (Rd.cur 2 2 rfl R6_7 inb_S4x256x128_S1x256x128_2_0_0) (Rd.cur 2 2 rfl R7_7 inb_S4x256x128_S1x256x128_2_0_0)))
  have R6_9 :=
    Rd.put (new := s2.acc) (old := s1.acc) 3 3 rfl R6_8 inb_S4x256x128_S1x256x128_3_0_0 _ ((payA03 _ _ _ _ _).trans (headAccD u2 Q KK VV (maskD 0#32) (2 * (i 1).val) s1 3 (hq 3 384 rfl inb_S256x512_S256x128_0_384) (hk0 3 _ ((offB i).2.2.2) (k0_off4_inb i 0)) (hv0 3 _ ((offB i).2.2.2) (k0_off4_inb i 0)) (Rd.cur 3 3 rfl R6_8 inb_S4x256x128_S1x256x128_3_0_0) (Rd.cur 3 3 rfl R7_8 inb_S4x256x128_S1x256x128_3_0_0)))
  have R6_9 := R6_9.done
  have ef : body.sl.v456 c i arg2 arg3 arg7 f2 f3 = flag s2.c := flag_of' _ _ (R7_9.readCov inb_S4x256x128_S4x256x128_0_0_0)
  have en : body.sl.v449 i = Scalar.subi (BitVec.ofNat 32 (2 * (i 1).val)) 1#32 := congrArg (fun x => Scalar.subi x 1#32) (muli_two (i 1))
  rw [ef, en]
  iapply (wp_call (defs := defs₀ (F := F)) 𝒱₀ (c : Thread nD τ) none Set.univ (2 * (i 1).val) (fun u hu => nomatch hu))
  iapply (walk c Set.univ i arg2 harg2 arg3 harg3 arg4 harg4 (k0_pay7 (F := F)) arg7 harg7 arg6 harg6 Q KK VV (2 * (i 1).val) hi63 s2 _)
  unfold held owns
  isplitl [H2 H3 H4 H6 H7]
  · isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    isplitl [H6]; · iexists _; isplitr; · ipureintro; exact R6_9.read f6
                    iexact H6
    iexists _; isplitr; · ipureintro; exact R7_9.read f7
    iexact H7
  iintro %r ⟨⟨%g2, %hg2, H2⟩, ⟨%g3, %hg3, H3⟩, ⟨%g4, %hg4, H4⟩, ⟨%g6, %hg6, H6⟩, ⟨%g7, %hg7, H7⟩⟩
  have h6 : ∀ h : Fin 4, ∀ o, o = h.val → ∀ inb, _ := readC arg6 g6 (final Q KK VV (i 1).val).acc hg6
  obtain ⟨r0, r1⟩ := r
  sl_exec
  rw [wp_ret]; imodintro
  ispecialize Hk $$ %(stack (final Q KK VV (i 1).val).acc)
  ispecialize Hk $$ %(stack (final Q KK VV (i 1).val).c)
  iapply Hk
  isplitl [H2]; · iexists g2; isplitr; · ipureintro; exact hg2
                  iexact H2
  isplitl [H3]; · iexists g3; isplitr; · ipureintro; exact hg3
                  iexact H3
  isplitl [H4]; · iexists g4; isplitr; · ipureintro; exact hg4
                  iexact H4
  isplitl [H5]
  · iexists _; isplitr
    · ipureintro
      exact readOut arg5 f5 (fun h => truncf .bf16 ((final Q KK VV (i 1).val).acc h) bitsLt_bf16_f32) _ _ _ _
        (congrArg (fun x => truncf .bf16 x bitsLt_bf16_f32) (h6 0 0 rfl inb_S4x256x128_S1x256x128_0_0_0))
        (congrArg (fun x => truncf .bf16 x bitsLt_bf16_f32) (h6 1 1 rfl inb_S4x256x128_S1x256x128_1_0_0))
        (congrArg (fun x => truncf .bf16 x bitsLt_bf16_f32) (h6 2 2 rfl inb_S4x256x128_S1x256x128_2_0_0))
        (congrArg (fun x => truncf .bf16 x bitsLt_bf16_f32) (h6 3 3 rfl inb_S4x256x128_S1x256x128_3_0_0))
    iexact H5
  isplitl [H6]; · iexists g6; isplitr; · ipureintro; exact hg6
                  iexact H6
  iexists g7; isplitr; · ipureintro; exact hg7
  iexact H7

end Cert.Proof.SB

end
-- ==== Proof.SB.Run.lean ====
/-
  The run of the kernel's program over any values: the pipeline's data, the body at every grid point, and the frame.
-/
module

public import proofs.«01_k».proof.Proof.SB.Body
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.Proof.SB

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- The buffers where the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  repeat' first | exact rfl | constructor

set_option backward.isDefEq.respectTransparency.types false in
theorem hmain : Pipeline.HMain (Ix := Unit) (Name := ℕ) (U := UR nD τ) (Lvl := ℕ) cfgs 0 defs₀ 𝒱₀ m (main (F := F)) (V m) :=
  Pipeline.hmain_prefix cfgs 0 defs₀ 𝒱₀ m main hostOps0 hostOps0_sub hostOps0_fresh main_chain

/-- Window `w`'s block at point `t`. -/
abbrev iblk (c : Dev nD) (w : Fin 4) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's block at point `t`. -/
def outAt (c : Dev nD) (t : Fin (cfg0 (F := F)).N) : Vec F S256x512 .bf16 :=
  outBlk (iblk m c 0 t) (iblk m c 1 t) (iblk m c 2 t) ((grid0.coords t) 1).val

/-- The pipeline's data. -/
def dats (_ : Fin 1) (c : Dev nD) : Dat τ (Elt F) Unit ℕ (UR nD τ) ℕ (cfg0 (F := F)) c where
  A w := V m c (Pipeline.arrRef spec0 w)
  after w t := match w with
    | 0 => iblk m c 0 t
    | 1 => iblk m c 1 t
    | 2 => iblk m c 2 t
    | 3 => outAt m c t
    | ⟨_ + 4, h⟩ => absurd h (Nat.not_lt.2 (Nat.le_add_left _ _))
  Φ _ := Pipeline.ΦA spec0 c
  q _ := fullShare
  owed _ := 0

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by dsimp only [dats]; rfl) t d).trans
    (by unfold Dat.fetched Dat.blockOf iblk; dsimp only [dats]; rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by dsimp only [dats]; rfl) t d).trans
    (by unfold Dat.fetched Dat.blockOf iblk; dsimp only [dats]; rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by dsimp only [dats]; rfl) t d).trans
    (by unfold Dat.fetched Dat.blockOf iblk; dsimp only [dats]; rfl)

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = outAt m c t := rfl

theorem share_eq (c : Dev nD) (w : Fin (cfg0 (F := F)).W) : (dats m 0 c).share w = fullShare := by
  unfold Dat.share; split <;> rfl

/-- The body at every point. -/
theorem body_obligation (c : Dev nD) : BodyObligation (dats (F := F) m 0 c) (defs₀ (F := F)) 𝒱₀ () Set.univ := fun t => by
  rw [bigSep_W0, bigSep_W0]
  show iprop(Pipeline.ΦA spec0 c ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp Idealize.ShloMosaic.frame (wpE (defs₀ (F := F)) 𝒱₀ (c : Thread nD τ) none) Set.univ (bodyAt0 t) fun _ =>
        iprop(Pipeline.ΦA spec0 c ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t))
  simp only [before_0, before_1, before_2, after_0, after_1, after_2, after_3]
  unfold Pipeline.ΦA
  rw [scopedRest0_eq]
  iintro ⟨⟨⟨⟨%f6, H6⟩, ⟨%f7, H7⟩⟩, Hr⟩, Ho, ⟨%d0, H2⟩, ⟨%d1, H3⟩, ⟨%d2, H4⟩, ⟨%d3, H5⟩⟩
  iapply (body c (grid0.coords t) _ _ _ _ _ _ _ _ (Memref.whole cc0_scratch0) (Memref.isWhole_whole _) (Memref.whole cc0_scratch1) (Memref.isWhole_whole _)
    (iblk m c 0 t) (iblk m c 1 t) (iblk m c 2 t) _ f6 f7 _)
  rw [owns_whole, owns_whole]
  isplitl [H2 H3 H4 H5 H6 H7]
  · isplitl [H2]; · iexact H2
    isplitl [H3]; · iexact H3
    isplitl [H4]; · iexact H4
    isplitl [H5]; · iexact H5
    isplitl [H6]; · iexact H6
    iexact H7
  iintro %Y6 %Y7 ⟨H2, H3, H4, H5, H6, H7⟩
  isplitl [H6 H7 Hr]
  · isplitl [H6 H7]
    · isplitl [H6]
      · iexists Y6
        rw [← owns_whole (c : Thread nD τ) cc0_scratch0 fullShare Y6]
        iexact H6
      · iexists Y7
        rw [← owns_whole (c : Thread nD τ) cc0_scratch1 fullShare Y7]
        iexact H7
    iexact Hr
  isplitl [Ho]; · iexact Ho
  isplitl [H2]; · iexact H2
  isplitl [H3]; · iexact H3
  isplitl [H4]; · iexact H4
  iexact H5

/-- Every run ends with the pipeline's arrays at what its write-backs leave, the other buffers as the host operations left
    them, and the counters at zero. -/
theorem run_main : θ_run defs (onTc (τ := τ) (main (F := F))) ⟨m, fun _ => 0, ρ⟩
    (fun r => Pipeline.FramePost (cfgs (F := F)) (dats m) 0 (V m) r ∧ r.2.sem = fun _ => 0) :=
  Pipeline.θ_run_frame cfgs (dats m) 0 launch0 defs₀ 𝒱₀ m ρ main (hbody := fun c => (body_obligation m c).loose)
    (hshare := share_eq m) (howed := fun _ _ => rfl) (V := V m) (hmain := hmain m) (hA := fun _ _ => rfl) (hΦ := fun _ _ => rfl)
    (Q' := fun r => Pipeline.FramePost (cfgs (F := F)) (dats m) 0 (V m) r ∧ r.2.sem = fun _ => 0)

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- The arguments end as they were, the counters at zero, and the result is what the write-backs leave. -/
theorem run_value : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v8) = (dats m 0 c).arrAt 3 (cfg0 (F := F)).N)
      ∧ r.2.sem = fun _ => 0) :=
  (θ_run defs _ _).mono
    (fun r h => ⟨fun c => ⟨⟨((h.1 c).2 main_arg0 (Pipeline.mem_restRefs_of main_arg0 (by decide) (fun w => by fin_cases w <;> exact fun h => by cases h))).trans (V_arg0 m c), ((h.1 c).2 main_arg1 (Pipeline.mem_restRefs_of main_arg1 (by decide) (fun w => by fin_cases w <;> exact fun h => by cases h))).trans (V_arg1 m c),
      ((h.1 c).2 main_arg2 (Pipeline.mem_restRefs_of main_arg2 (by decide) (fun w => by fin_cases w <;> exact fun h => by cases h))).trans (V_arg2 m c)⟩, (h.1 c).1 3⟩, h.2⟩)
    (run_main m ρ)

end Cert.Proof.SB

end
-- ==== Proof.SB.Frames.lean ====
module

public import proofs.«01_k».proof.Defs
public import proofs.«01_k».proof.Proof.SB.Run
public import proofs.«01_k».proof.Proof.SK.Run
public import proofs.«01_k».proof.Proof.Gen.Kernel
public import proofs.«01_k».proof.Proof.Gen.ReferenceIdeal
public import proofs.«01_k».proof.Proof.Gen.ReferenceIdeal.Run

@[expose] public section

noncomputable section

namespace Cert.Proof.SB

open Idealize.ShloMosaic Idealize.SL.Sem

theorem frame_ideal : Cert.quiescent_KernelIdeal := fun m g _ =>
  (θ_run Cert.KernelIdeal.defs _ _).mono (fun _ h => ⟨fun c => (h.1 c).1, h.2⟩) (run_value (F := Ideal) m g)

theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem frame_kernel : Cert.quiescent_Kernel := fun m g _ =>
  (θ_run Cert.Kernel.defs _ _).mono (fun _ h => ⟨fun c => (h.1 c).1, h.2⟩) (SK.run_value (F := Bits) m g)

theorem preserves : Cert.preserves_Kernel_KernelIdeal :=
  IdealRules.named_const.statement Cert.KernelIdeal.κ "exit" .f32 0xC2F00000#32 ⊥ rfl

end Cert.Proof.SB

end
-- ==== Proof.SB.Math.lean ====
module

public import Idealize.ShloMosaic.PureOps.Ideal
public import Idealize.ShloMosaic.PureOps.Ideal.Laws
public import Mathlib.Algebra.BigOperators.Intervals

@[expose] public section

noncomputable section

namespace Cert.Proof.SB

open Idealize.ShloMosaic

/-! The attention in extended reals: for one query at position `p` and one head, `z` the logits over the keys. -/

/-- `log (1 + exp z)`, as both programs write it. -/
def sp (z : EReal) : EReal := max z 0 + Ideal.log (1 + Ideal.exp (-(max z (-z))))

/-- The log of what a key leaves to the earlier ones. -/
def lg (z : EReal) : EReal := -sp z

/-- The same, nothing taken by a key that the query does not see. -/
def lgm (p : ℕ) (z : ℕ → EReal) (k : ℕ) : EReal := if k < p then lg (z k) else 0

/-- The weight of key `k`. -/
def wt (p : ℕ) (z : ℕ → EReal) (k : ℕ) : EReal :=
  if k < p then Ideal.exp (z k + lg (z k) + ∑ j ∈ Finset.Ico (k + 1) 8192, lgm p z j) else 0

/-- The sum of the log weights of the keys from `a` on. -/
def tot (p : ℕ) (z : ℕ → EReal) (a : ℕ) : EReal := ∑ j ∈ Finset.Ico a 8192, lgm p z j

/-- The weighted sum of the values of the keys from `a` on. -/
def out (p : ℕ) (z v : ℕ → EReal) (a : ℕ) : EReal := ∑ j ∈ Finset.Ico a 8192, wt p z j * v j

theorem log_one_add_exp (r : ℝ) : Ideal.log (1 + Ideal.exp (r : EReal)) = ((Real.log (1 + Real.exp r) : ℝ) : EReal) := by
  have h : (1 : EReal) + Ideal.exp (r : EReal) = ((1 + Real.exp r : ℝ) : EReal) := by
    rw [EReal.coe_add]; rfl
  rw [h]
  have hp : ¬ (1 + Real.exp r ≤ 0) := not_le.mpr (by positivity)
  show (if (1 + Real.exp r) ≤ 0 then ⊥ else ((Real.log (1 + Real.exp r) : ℝ) : EReal)) = _
  rw [if_neg hp]

theorem sp_coe (r : ℝ) : sp (r : EReal) = ((max r 0 + Real.log (1 + Real.exp (-|r|)) : ℝ) : EReal) := by
  unfold sp
  have h1 : -(max (r : EReal) (-(r : EReal))) = ((-|r| : ℝ) : EReal) := by
    rw [abs, EReal.coe_neg, EReal.coe_strictMono.monotone.map_max, EReal.coe_neg]
  have h2 : max (r : EReal) 0 = ((max r 0 : ℝ) : EReal) :=
    (EReal.coe_strictMono.monotone.map_max (a := r) (b := 0)).symm
  rw [h1, h2, log_one_add_exp, EReal.coe_add]

theorem log_one : Ideal.log 1 = 0 := by
  show (if (1 : ℝ) ≤ 0 then ⊥ else ((Real.log 1 : ℝ) : EReal)) = _
  rw [if_neg (by norm_num), Real.log_one]; rfl

theorem exp_bot : Ideal.exp ⊥ = 0 := rfl

theorem sp_top : sp ⊤ = ⊤ := by
  unfold sp
  rw [EReal.neg_top, max_eq_left bot_le, EReal.neg_top, exp_bot, add_zero, log_one, add_zero]
  exact max_eq_left le_top

theorem sp_bot : sp ⊥ = 0 := by
  unfold sp
  rw [EReal.neg_bot, max_eq_right bot_le, max_eq_right bot_le, EReal.neg_top, exp_bot, add_zero, log_one, add_zero]

/-- The log weight a key takes, the two programs' ways: `z − log (1 + exp z)` and `− log (1 + exp (− z))` with
    the key's own log weight added and taken away again. -/
theorem weight (z s : EReal) : -sp (-z) + ((lg z + s) - lg z) = z + lg z + s := by
  unfold lg
  induction z using EReal.rec with
  | bot => simp [sp_bot, sp_top]
  | top => simp [sp_bot, sp_top]
  | coe r =>
    rw [← EReal.coe_neg, sp_coe, sp_coe, ← EReal.coe_neg, ← EReal.coe_neg, ← EReal.coe_add]
    have h : -(max (-r) 0 + Real.log (1 + Real.exp (-|-r|))) = r + -(max r 0 + Real.log (1 + Real.exp (-|r|))) := by
      rw [abs_neg]
      rcases le_total 0 r with h | h
      · rw [max_eq_left h, max_eq_right (by linarith)]; ring
      · rw [max_eq_right h, max_eq_left (by linarith)]; ring
    rw [h]
    congr 1
    induction s using EReal.rec with
    | bot => simp
    | top => rw [EReal.coe_add_top]; exact EReal.top_sub_coe _
    | coe t => rw [← EReal.coe_add, ← EReal.coe_sub]; congr 1; ring

theorem lgm_le (p : ℕ) (z : ℕ → EReal) (k : ℕ) (h : p ≤ k) : lgm p z k = 0 := if_neg (not_lt.mpr h)

theorem wt_le (p : ℕ) (z : ℕ → EReal) (k : ℕ) (h : p ≤ k) : wt p z k = 0 := if_neg (not_lt.mpr h)

theorem tot_start (p : ℕ) (z : ℕ → EReal) (a : ℕ) (h : p ≤ a) : tot p z a = 0 :=
  Finset.sum_eq_zero fun j hj => lgm_le p z j (h.trans (Finset.mem_Ico.mp hj).1)

theorem out_start (p : ℕ) (z v : ℕ → EReal) (a : ℕ) (h : p ≤ a) : out p z v a = 0 :=
  Finset.sum_eq_zero fun j hj => by rw [wt_le p z j (h.trans (Finset.mem_Ico.mp hj).1), zero_mul]

/-- A sum over a chunk of 128 keys, by their places in the chunk. -/
theorem sum_chunk (f : ℕ → EReal) (n : ℕ) : ∑ x : Fin 128, f (128 * n + x.val) = ∑ j ∈ Finset.Ico (128 * n) (128 * (n + 1)), f j := by
  rw [Finset.sum_Ico_eq_sum_range, show 128 * (n + 1) - 128 * n = 128 by omega, Finset.sum_range]

/-- The same, of the later keys of the chunk alone. -/
theorem sum_suffix (f : ℕ → EReal) (n x : ℕ) :
    ∑ y : Fin 128, (if x < y.val then f (128 * n + y.val) else 0) = ∑ j ∈ Finset.Ico (128 * n + x + 1) (128 * (n + 1)), f j := by
  have h : ∀ y : Fin 128, (if x < y.val then f (128 * n + y.val) else 0) = (fun j => if 128 * n + x < j then f j else 0) (128 * n + y.val) := by
    intro y; simp only [Nat.add_lt_add_iff_left]
  rw [Finset.sum_congr rfl fun y _ => h y, sum_chunk (fun j => if 128 * n + x < j then f j else 0), ← Finset.sum_filter]
  congr 1; ext j; simp only [Finset.mem_filter, Finset.mem_Ico]; omega

theorem tot_step (p : ℕ) (z : ℕ → EReal) (n : ℕ) (hn : n < 64) :
    tot p z (128 * (n + 1)) + ∑ x : Fin 128, lgm p z (128 * n + x.val) = tot p z (128 * n) := by
  rw [sum_chunk, add_comm]
  exact Finset.sum_Ico_consecutive _ (by omega) (by omega)

theorem suffix_step (p : ℕ) (z : ℕ → EReal) (n : ℕ) (hn : n < 64) (x : Fin 128) :
    (∑ y : Fin 128, (if x.val < y.val then lgm p z (128 * n + y.val) else 0)) + tot p z (128 * (n + 1))
      = ∑ j ∈ Finset.Ico (128 * n + x.val + 1) 8192, lgm p z j := by
  rw [sum_suffix]
  exact Finset.sum_Ico_consecutive _ (by omega) (by omega)

theorem out_step (p : ℕ) (z v : ℕ → EReal) (n : ℕ) (hn : n < 64) :
    out p z v (128 * (n + 1)) + ∑ x : Fin 128, wt p z (128 * n + x.val) * v (128 * n + x.val) = out p z v (128 * n) := by
  rw [sum_chunk (fun j => wt p z j * v j), add_comm]
  exact Finset.sum_Ico_consecutive _ (by omega) (by omega)

/-- Once no weight is left, the earlier keys add nothing. -/
theorem out_stop (p : ℕ) (z v : ℕ → EReal) (a : ℕ) (ha : a ≤ 8192) (h : tot p z a = ⊥) : out p z v a = out p z v 0 := by
  have e : out p z v 0 = (∑ j ∈ Finset.Ico 0 a, wt p z j * v j) + out p z v a :=
    (Finset.sum_Ico_consecutive _ (Nat.zero_le _) ha).symm
  rw [e, Finset.sum_eq_zero, zero_add]
  intro j hj
  have hj' := (Finset.mem_Ico.mp hj).2
  have s : ∑ i ∈ Finset.Ico (j + 1) 8192, lgm p z i = ⊥ := by
    rw [← Finset.sum_Ico_consecutive _ (show j + 1 ≤ a by omega) ha]
    show _ + tot p z a = ⊥
    rw [h, EReal.add_bot]
  unfold wt
  rw [s, EReal.add_bot, exp_bot, ite_self, zero_mul]

/-- Splitting a word into its rounding and the rest loses nothing, the rest being nothing or not a number. -/
theorem hi_lo (x u : EReal) (hu : u = 0 ∨ u = 1) (hx : x ≠ ⊤) : x * u + (x - x) * u = x * u := by
  rcases hu with rfl | rfl
  · simp
  · induction x using EReal.rec with
    | bot => simp
    | top => exact absurd rfl hx
    | coe r => rw [mul_one, mul_one, ← EReal.coe_sub, sub_self, EReal.coe_zero, add_zero]

theorem lg_ne_top (z : EReal) : lg z ≠ ⊤ := by
  unfold lg
  induction z using EReal.rec with
  | bot => simp [sp_bot]
  | top => simp [sp_top]
  | coe r => rw [sp_coe, ← EReal.coe_neg]; exact EReal.coe_ne_top _

theorem lgm_ne_top (p : ℕ) (z : ℕ → EReal) (k : ℕ) : lgm p z k ≠ ⊤ := by
  unfold lgm; split
  · exact lg_ne_top _
  · exact EReal.zero_ne_top

/-- A positive finite factor goes into a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

end Cert.Proof.SB

end
-- ==== Proof.SB.Walk.lean ====
module

public import proofs.«01_k».proof.Proof.SB.Spec
public import proofs.«01_k».proof.Proof.SB.Math
public import Idealize.ShloMosaic.Lib.Pointwise

@[expose] public section

set_option maxRecDepth 16384

noncomputable section

namespace Cert.Proof.SB

open Cert.KernelIdeal Cert.KernelIdeal.Gen
open Idealize.ShloMosaic

/-! The walk over the chunks, read in extended reals. -/

theorem zOf_apply (q : FVec Ideal S256x128 .bf16) (k : FVec Ideal S128x128 .bf16) (r : Fin 256) (x : Fin 128) :
    zOf q k (ix2 r x) = ∑ d : Fin 128, q (ix2 r d) * k (ix2 x d) := by
  pointwise [zOf]

theorem lkOf_apply (z : FVec Ideal S256x128 .f32) (r : Fin 256) (x : Fin 128) : lkOf z (ix2 r x) = lg (z (ix2 r x)) := by
  pointwise [lkOf, lg, sp]
  rw [zero_sub, zero_sub]; rfl

theorem toInt_small (a : ℕ) (h : a < 2 ^ 31) : (BitVec.ofNat 32 a).toInt = a := by
  rw [BitVec.toInt_eq_toNat_of_lt (by rw [BitVec.toNat_ofNat]; omega), BitVec.toNat_ofNat]; omega

theorem slt_small (a b : ℕ) (ha : a < 2 ^ 31) (hb : b < 2 ^ 31) :
    (BitVec.ofNat 32 a).slt (BitVec.ofNat 32 b) = decide (a < b) := by
  rw [BitVec.slt_eq_decide, toInt_small a ha, toInt_small b hb]; simp

theorem sle_small (a b : ℕ) (ha : a < 2 ^ 31) (hb : b < 2 ^ 31) :
    (BitVec.ofNat 32 a).sle (BitVec.ofNat 32 b) = decide (a ≤ b) := by
  rw [BitVec.sle_eq_decide, toInt_small a ha, toInt_small b hb]; simp

theorem u2_apply (x : Fin 128) (c : Fin 256) :
    (u2 (F := Ideal)) (ix2 x c) = if c.val < x.val ∨ 128 ≤ c.val then (1 : EReal) else 0 := by
  pointwise [u2]
  show Scalar.select (BitVec.ofBool ((BitVec.ofNat 32 c.val).slt (BitVec.ofNat 32 x.val)) |||
    BitVec.ofBool ((BitVec.ofNat 32 128).sle (BitVec.ofNat 32 c.val))) (1 : EReal) 0 = _
  rw [slt_small _ _ (by omega) (by omega), sle_small _ _ (by omega) (by omega)]
  by_cases h1 : c.val < x.val <;> by_cases h2 : 128 ≤ c.val <;> simp [h1, h2, Scalar.select]

theorem csOf_apply (lk : FVec Ideal S256x128 .f32) (hlk : ∀ j, lk j ≠ (⊤ : EReal)) (r : Fin 256) (c : Fin 256) :
    csOf u2 lk (ix2 r c) = ∑ x : Fin 128, (if c.val < x.val ∨ 128 ≤ c.val then (lk (ix2 r x) : EReal) else 0) := by
  pointwise [csOf]
  rw [← Finset.sum_add_distrib]
  refine Finset.sum_congr rfl fun x _ => ?_
  rw [u2_apply]
  refine (hi_lo _ _ ?_ (hlk _)).trans ?_
  · split
    · exact .inr rfl
    · exact .inl rfl
  · split
    · exact mul_one _
    · exact mul_zero _

theorem maskD_apply (d : ℕ) (hd : d ≤ 128) (r : Fin 256) (x : Fin 128) :
    maskD (BitVec.ofNat 32 d) (ix2 r x) = BitVec.ofBool (decide (x.val + d < r.val)) := by
  pointwise [maskD]
  show BitVec.ofBool ((BitVec.ofNat 32 x.val + BitVec.ofNat 32 d).slt (BitVec.ofNat 32 r.val)) = _
  rw [← BitVec.ofNat_add, slt_small _ _ (by omega) (by omega)]

/-! One query block's walk: `i` the block, `Q`, `K`, `V` its queries, keys and values. -/

section Walk

variable (Q : Vec Ideal S256x512 .bf16) (K V : Vec Ideal S8192x512 .bf16) (i : ℕ)

/-- Lane `d` of head `h`. -/
abbrev lane (h : Fin 4) (d : Fin 128) : Fin 512 := ⟨128 * h.val + d.val, by omega⟩

/-- Key `k`. -/
abbrev row (k : ℕ) : Fin 8192 := ⟨k % 8192, Nat.mod_lt _ (by decide)⟩

/-- The logits of query `r` in head `h`. -/
def lz (h : Fin 4) (r : Fin 256) (k : ℕ) : EReal := ∑ d : Fin 128, Q (ix2 r (lane h d)) * K (ix2 (row k) (lane h d))

/-- Lane `d` of the values in head `h`. -/
def lv (h : Fin 4) (d : Fin 128) (k : ℕ) : EReal := V (ix2 (row k) (lane h d))

/-- What the walk holds when the chunks from `n` on are done. -/
def Inv (n : ℕ) (σ : St Ideal) : Prop := ∀ (h : Fin 4) (r : Fin 256) (d : Fin 128),
  σ.c h (ix2 r d) = tot (256 * i + r.val) (lz Q K h r) (128 * n)
    ∧ σ.acc h (ix2 r d) = out (256 * i + r.val) (lz Q K h r) (lv V h d) (128 * n)

theorem z_apply (n : ℕ) (h : Fin 4) (r : Fin 256) (x : Fin 128) :
    zOf (qh Q h) (kh K n h) (ix2 r x) = lz Q K h r (128 * n + x.val) := zOf_apply _ _ _ _

theorem cNew_apply (lk c : FVec Ideal S256x128 .f32) (hlk : ∀ j, lk j ≠ (⊤ : EReal)) (r : Fin 256) (d : Fin 128) :
    cNew u2 lk c (ix2 r d) = c (ix2 r d) + ∑ x : Fin 128, (lk (ix2 r x) : EReal) := by
  pointwise [cNew]
  rw [csOf_apply lk hlk]
  refine congrArg _ (Finset.sum_congr rfl fun x _ => if_pos (.inr ?_))
  simp

theorem eOf_apply (z lk c : FVec Ideal S256x128 .f32) (hlk : ∀ j, lk j ≠ (⊤ : EReal)) (r : Fin 256) (x : Fin 128) :
    eOf u2 z lk c (ix2 r x) = Ideal.exp (z (ix2 r x) + lk (ix2 r x)
      + ((∑ y : Fin 128, (if x.val < y.val then (lk (ix2 r y) : EReal) else 0)) + c (ix2 r x))) := by
  pointwise [eOf]
  rw [csOf_apply lk hlk, add_assoc]
  refine congrArg Ideal.exp (congrArg _ (congrArg (· + _) (Finset.sum_congr rfl fun y _ => ?_)))
  have hx : ¬ 128 ≤ x.val := by omega
  simp [hx]

theorem accNew_apply (a : FVec Ideal S256x128 .bf16) (v : FVec Ideal S128x128 .bf16) (acc : FVec Ideal S256x128 .f32)
    (r : Fin 256) (d : Fin 128) :
    accNew a v acc (ix2 r d) = acc (ix2 r d) + ∑ x : Fin 128, a (ix2 r x) * v (ix2 x d) := by
  pointwise [accNew]

/-- One chunk, whatever its mask, given what its weights and its log weights are. -/
theorem chunk (n : ℕ) (hn : n < 64) (h : Fin 4) (σ : St Ideal) (hσ : Inv Q K V i (n + 1) σ)
    (lk : FVec Ideal S256x128 .f32) (a : FVec Ideal S256x128 .bf16)
    (hlk : ∀ (r : Fin 256) (x : Fin 128), lk (ix2 r x) = lgm (256 * i + r.val) (lz Q K h r) (128 * n + x.val))
    (ha : ∀ (r : Fin 256) (x : Fin 128), a (ix2 r x)
      = if 128 * n + x.val < 256 * i + r.val then eOf u2 (zOf (qh Q h) (kh K n h)) lk (σ.c h) (ix2 r x) else (0 : EReal))
    (r : Fin 256) (d : Fin 128) :
    cNew u2 lk (σ.c h) (ix2 r d) = tot (256 * i + r.val) (lz Q K h r) (128 * n)
      ∧ accNew a (kh V n h) (σ.acc h) (ix2 r d) = out (256 * i + r.val) (lz Q K h r) (lv V h d) (128 * n) := by
  have hl : ∀ j, lk j ≠ (⊤ : EReal) := fun j => by
    idx_vars j; rw [hlk]; exact lgm_ne_top _ _ _
  constructor
  · rw [cNew_apply _ _ hl, (hσ h r d).1, ← tot_step _ _ n hn]
    exact congrArg _ (Finset.sum_congr rfl fun x _ => hlk r x)
  · rw [accNew_apply, (hσ h r d).2, ← out_step _ _ _ n hn]
    refine congrArg _ (Finset.sum_congr rfl fun x _ => ?_)
    refine congrArg (· * _) ((ha r x).trans ?_)
    unfold wt
    by_cases hk : 128 * n + x.val < 256 * i + r.val
    · rw [if_pos hk, if_pos hk, eOf_apply _ _ _ hl, z_apply, hlk, (hσ h r x).1, ← suffix_step _ _ n hn x]
      simp only [hlk]
      rw [show lgm (256 * i + r.val) (lz Q K h r) (128 * n + x.val) = lg (lz Q K h r (128 * n + x.val)) from if_pos hk]
    · rw [if_neg hk, if_neg hk]

theorem inv_step (n : ℕ) (hn : n < 2 * i) (hi : i < 32) (σ : St Ideal) (hσ : Inv Q K V i (n + 1) σ) :
    Inv Q K V i n (step u2 Q K V n σ) := fun h r d => by
  have hk : ∀ (r : Fin 256) (x : Fin 128), 128 * n + x.val < 256 * i + r.val := fun r x => by omega
  refine chunk Q K V i n (by omega) h σ hσ _ _ (fun r x => ?_) (fun r x => ?_) r d
  · rw [lkOf_apply, z_apply]; exact (if_pos (hk r x)).symm
  · rw [if_pos (hk r x)]; rfl

theorem inv_stepD (m : ℕ) (hm : m < 2) (hi : i < 32) (σ : St Ideal) (hσ : Inv Q K V i (2 * i + m + 1) σ) :
    Inv Q K V i (2 * i + m) (stepD (maskD (BitVec.ofNat 32 (128 * m))) u2 Q K V (2 * i + m) σ) := fun h r d => by
  have e : ∀ (r : Fin 256) (x : Fin 128), (128 * (2 * i + m) + x.val < 256 * i + r.val) ↔ (x.val + 128 * m < r.val) := fun r x => by omega
  refine chunk Q K V i (2 * i + m) (by omega) h σ hσ _ _ (fun r x => ?_) (fun r x => ?_) r d
  · pointwise
    rw [maskD_apply _ (by omega), lkOf_apply, z_apply]
    unfold lgm
    by_cases hx : x.val + 128 * m < r.val
    · rw [if_pos ((e r x).mpr hx)]; simp [hx, Scalar.select]
    · rw [if_neg (fun h => hx ((e r x).mp h))]; simp [hx, Scalar.select]
  · pointwise
    rw [maskD_apply _ (by omega)]
    by_cases hx : x.val + 128 * m < r.val
    · rw [if_pos ((e r x).mpr hx)]; simp [hx, Scalar.select]
    · rw [if_neg (fun h => hx ((e r x).mp h))]; simp [hx, Scalar.select]

theorem named_exit : (Named.named κ "exit" 0xC2F00000#32 : Ideal .f32) = (⊥ : EReal) := by
  have h : κ "exit" = some ⊥ := rfl
  show (κ "exit").getD _ = _
  rw [h]; rfl

theorem test_bot (t e : Ideal .f32) (he : e = (⊥ : EReal)) (h : t ≠ (⊥ : EReal)) :
    Scalar.cmpi .sgt (Scalar.extui (Scalar.cmpf .ogt t e)) 0#32 = 1#1 := by
  have h1 : Scalar.cmpf .ogt t e = 1#1 := by
    rw [Ideal.scalar_cmpf_def, he]
    show BitVec.ofBool (decide ((⊥ : EReal) < t)) = 1#1
    rw [decide_eq_true (bot_lt_iff_ne_bot.mpr h)]; rfl
  rw [h1]; decide

theorem drop_all (x : S1x4x256x128.Idx) : reduces_S1x4x256x128_S1.drop x = ix1 0 := by
  generalize reduces_S1x4x256x128_S1.drop x = y
  funext b
  apply Fin.ext
  have h1 := (y b).isLt
  have h2 := ((ix1 (0 : Fin 1) : S1.Idx) b).isLt
  match b, h1, h2 with
  | ⟨0, _⟩, h1, h2 => exact (Nat.lt_one_iff.mp h1).trans (Nat.lt_one_iff.mp h2).symm

theorem fold_bot (f : S1x4x256x128.Idx → EReal) (e : EReal) (h : Finset.fold max e f {i | reduces_S1x4x256x128_S1.drop i = ix1 0} = ⊥)
    (x : S1x4x256x128.Idx) : f x = ⊥ := by
  have hle := ((Finset.fold_max_le _).mp (le_of_eq h)).2 x (Finset.mem_filter.mpr ⟨Finset.mem_univ _, drop_all x⟩)
  exact le_bot_iff.mp hle

/-- The test is on the largest running log weight: when it fails, none is left. -/
theorem flag_stop (c : Fin 4 → FVec Ideal S256x128 .f32) (h : ¬ Scalar.cmpi .sgt (flag c) 0#32 = 1#1)
    (g : Fin 4) (r : Fin 256) (d : Fin 128) : c g (ix2 r d) = (⊥ : EReal) := by
  have ht : top (stack c) = (⊥ : EReal) := by
    by_contra hne
    apply h
    unfold flag
    exact test_bot _ _ named_exit hne
  revert ht
  pointwise [top]
  intro ht
  exact fold_bot _ _ ht (ix4 0 g r d)

end Walk

end Cert.Proof.SB

end
-- ==== Proof.SB.Walk2.lean ====
module

public import proofs.«01_k».proof.Proof.SB.Walk

@[expose] public section

noncomputable section

namespace Cert.Proof.SB

open Cert.KernelIdeal Cert.KernelIdeal.Gen
open Idealize.ShloMosaic

variable (Q : Vec Ideal S256x512 .bf16) (K V : Vec Ideal S8192x512 .bf16) (i : ℕ)

theorem loop_go (n : ℕ) (σ : St Ideal) (hf : Scalar.cmpi .sgt (flag σ.c) 0#32 = 1#1) :
    loopF u2 Q K V (n + 1) σ = loopF u2 Q K V n (step u2 Q K V n σ) := if_pos hf

theorem loop_stay (n : ℕ) (σ : St Ideal) (hf : ¬ Scalar.cmpi .sgt (flag σ.c) 0#32 = 1#1) :
    loopF u2 Q K V (n + 1) σ = σ := if_neg hf

theorem inv_done (σ : St Ideal) (hσ : Inv Q K V i 0 σ) (h : Fin 4) (r : Fin 256) (d : Fin 128) :
    σ.acc h (ix2 r d) = out (256 * i + r.val) (lz Q K h r) (lv V h d) 0 := (hσ h r d).2

theorem inv_stop (n : ℕ) (hn : n ≤ 64) (σ : St Ideal) (hσ : Inv Q K V i n σ) (hf : ¬ Scalar.cmpi .sgt (flag σ.c) 0#32 = 1#1)
    (h : Fin 4) (r : Fin 256) (d : Fin 128) :
    σ.acc h (ix2 r d) = out (256 * i + r.val) (lz Q K h r) (lv V h d) 0 := by
  have e1 := (hσ h r d).1
  rw [flag_stop σ.c hf h r d] at e1
  rw [(hσ h r d).2]
  exact out_stop _ _ _ _ (by omega) e1.symm

/-- The walk down to chunk 0, stopped or not, leaves the whole weighted sum. -/
theorem loop_out (hi : i < 32) (n : ℕ) : ∀ (σ : St Ideal), n ≤ 2 * i → Inv Q K V i n σ → ∀ (h : Fin 4) (r : Fin 256) (d : Fin 128),
    (loopF u2 Q K V n σ).acc h (ix2 r d) = out (256 * i + r.val) (lz Q K h r) (lv V h d) 0 := by
  induction n with
  | zero => exact fun σ _ hσ => inv_done Q K V i σ hσ
  | succ n ih =>
    intro σ hn hσ
    by_cases hf : Scalar.cmpi .sgt (flag σ.c) 0#32 = 1#1
    · rw [loop_go Q K V n σ hf]
      exact ih _ (by omega) (inv_step Q K V i n (by omega) hi σ hσ)
    · rw [loop_stay Q K V n σ hf]
      exact inv_stop Q K V i (n + 1) (by omega) σ hσ hf

theorem inv_start (hi : i < 32) : Inv Q K V i (2 * i + 1 + 1) σ0 := fun h r d => by
  have e1 : (σ0 (F := Ideal)).c h (ix2 r d) = (0 : EReal) := Ideal.ofBits_zero_f32
  have e2 : (σ0 (F := Ideal)).acc h (ix2 r d) = (0 : EReal) := Ideal.ofBits_zero_f32
  rw [e1, e2, tot_start _ _ _ (by omega), out_start _ _ _ _ (by omega)]
  exact ⟨rfl, rfl⟩

theorem inv_diag (hi : i < 32) : Inv Q K V i (2 * i) (stepD (maskD 0#32) u2 Q K V (2 * i) (stepD (maskD 128#32) u2 Q K V (2 * i + 1) σ0)) := by
  have e1 := inv_stepD Q K V i 1 (by omega) hi _ (inv_start Q K V i hi)
  have e0 := inv_stepD Q K V i 0 (by omega) hi _ e1
  rw [Nat.mul_zero, Nat.add_zero] at e0
  exact e0

theorem final_out (hi : i < 32) (h : Fin 4) (r : Fin 256) (d : Fin 128) :
    (final Q K V i).acc h (ix2 r d) = out (256 * i + r.val) (lz Q K h r) (lv V h d) 0 :=
  loop_out Q K V i hi (2 * i) _ le_rfl (inv_diag Q K V i hi) h r d

end Cert.Proof.SB

end
-- ==== Proof.SB.Ref.lean ====
module

public import proofs.«01_k».proof.Proof.SB.Math
public import proofs.«01_k».proof.Proof.Gen.ReferenceIdeal.Read
public import Idealize.ShloMosaic.Lib.Pointwise

@[expose] public section

set_option maxRecDepth 16384

noncomputable section

namespace Cert.Proof.SB

open Cert.ReferenceIdeal Cert.ReferenceIdeal.Gen Cert.ReferenceIdeal.Read
open Idealize.ShloMosaic

/-! The reference, read in extended reals. -/

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The running sum from the end, as the window sum that pads the end. -/
theorem running_sum (H N M : ℕ) (x : (⟨4, ![1, H, N, N]⟩ : Shape).Idx → EReal)
    (hw : (⟨4, ![1, H, N, N]⟩ : Shape).ReduceWindows ![1, 1, 1, N] ![1, 1, 1, 1] ![0, 0, 0, 0] ![0, 0, 0, M] ⟨4, ![1, H, N, N]⟩)
    (h : Fin H) (p k : Fin N) :
    Ideal.hostReduceWindowAdd ![1, 1, 1, N] ![1, 1, 1, 1] ![0, 0, 0, 0] ![0, 0, 0, M] hw x 0 (ix4 0 h p k)
      = ∑ n : Fin N, if hn : k.val + n.val < N then x (ix4 0 h p ⟨k.val + n.val, hn⟩) else 0 := by
  unfold Ideal.hostReduceWindowAdd Host.reduceWindow
  dsimp only
  rw [foldl_add, zero_add, ← Fin.sum_univ_def]
  refine (Finset.sum_congr rfl fun n _ => ?_).trans ((Equiv.sum_comp (Shape.rowMajor ⟨4, ![1, 1, 1, N]⟩).symm
    (fun w : (⟨4, ![1, 1, 1, N]⟩ : Shape).Idx => if hn : k.val + (w 3).val < N then x (ix4 0 h p ⟨k.val + (w 3).val, hn⟩) else 0)).trans ?_)
  · let w : (⟨4, ![1, 1, 1, N]⟩ : Shape).Idx := (Shape.rowMajor ⟨4, ![1, 1, 1, N]⟩).symm n
    have h1 := h.isLt
    have h2 := p.isLt
    have w0 : (w 0).val = 0 := Nat.lt_one_iff.mp (w 0).isLt
    have w1 : (w 1).val = 0 := Nat.lt_one_iff.mp (w 1).isLt
    have w2 : (w 2).val = 0 := Nat.lt_one_iff.mp (w 2).isLt
    by_cases hn : k.val + (w 3).val < N
    · refine (dif_pos ?_).trans (Eq.trans ?_ (dif_pos hn).symm)
      rotate_left
      · refine congrArg x (funext fun a => Fin.ext ?_)
        match a with
        | ⟨0, _⟩ => show 0 * 1 + (w 0).val - 0 = 0; omega
        | ⟨1, _⟩ => show h.val * 1 + (w 1).val - 0 = h.val; omega
        | ⟨2, _⟩ => show p.val * 1 + (w 2).val - 0 = p.val; omega
        | ⟨3, _⟩ => show k.val * 1 + (w 3).val - 0 = k.val + (w 3).val; omega
      · intro a
        match a with
        | ⟨0, _⟩ => exact ⟨Nat.zero_le _, by show 0 * 1 + (w 0).val - 0 < 1; omega⟩
        | ⟨1, _⟩ => exact ⟨Nat.zero_le _, by show h.val * 1 + (w 1).val - 0 < H; omega⟩
        | ⟨2, _⟩ => exact ⟨Nat.zero_le _, by show p.val * 1 + (w 2).val - 0 < N; omega⟩
        | ⟨3, _⟩ => exact ⟨Nat.zero_le _, by show k.val * 1 + (w 3).val - 0 < N; omega⟩
    · refine (dif_neg ?_).trans (Eq.symm ?_)
      rotate_left
      · exact dif_neg hn
      intro hin
      have h3 : k.val * 1 + (w 3).val - 0 < N := (hin 3).2
      omega
  · rw [sum_idx4, Fin.sum_univ_one, Fin.sum_univ_one, Fin.sum_univ_one]
    rfl

/-- The terms of the running sum, as a sum over the later keys. -/
theorem sum_shift (N k : ℕ) (f : ℕ → EReal) :
    (∑ n : Fin N, if k + n.val < N then f (k + n.val) else 0) = ∑ j ∈ Finset.Ico k N, f j := by
  rw [← Finset.sum_range (fun n => if k + n < N then f (k + n) else 0), Finset.sum_Ico_eq_sum_range, ← Finset.sum_filter]
  congr 1; ext n; simp only [Finset.mem_filter, Finset.mem_range]; omega

section

variable (x0 x1 x2 : (⟨S1x8192x8x128, .f32⟩ : BufTy).Contents (Elt Ideal))

/-- The scale of the logits. -/
def scale : EReal := Ideal.ofBits .f32 0x3DB504F3#32

/-- Key `k` of the reference. -/
abbrev key (k : ℕ) : Fin 8192 := ⟨k % 8192, Nat.mod_lt _ (by decide)⟩

/-- The reference's logits of query `p` in head `h`. -/
def rz (h : Fin 8) (p : Fin 8192) (k : ℕ) : EReal :=
  (∑ d : Fin 128, (x0 (ix4 0 p h d) : EReal) * (x1 (ix4 0 (key k) h d) : EReal)) * scale

/-- Lane `d` of the reference's values in head `h`. -/
def rv (h : Fin 8) (d : Fin 128) (k : ℕ) : EReal := x2 (ix4 0 (key k) h d)

theorem key_val (k : Fin 8192) : key k.val = k := Fin.ext (Nat.mod_eq_of_lt k.isLt)

theorem ref_z (h : Fin 8) (p k : Fin 8192) : val_main_v3 (F := Ideal) x0 x1 (ix4 0 h p k) = rz x0 x1 h p k.val := by
  rw [val_main_v3_apply, val_main_v1_apply, val_main_v2_apply, val_main_cst_apply]
  unfold rz
  rw [key_val]
  refine congrArg (· * _) (Finset.sum_congr rfl fun d _ => ?_)
  rw [eq_ix4 (lidx_main_v1 _ d), eq_ix4 (ridx_main_v1 _ d)]
  rfl

theorem ref_mask (p k : Fin 8192) : val_main_v9 (F := Ideal) (ix4 0 0 p k) = BitVec.ofBool (decide (k.val < p.val)) := by
  rw [val_main_v9_apply, val_main_v8_apply, val_main_v6_apply, val_main_v7_apply, val_main_v4_apply, val_main_v5_apply,
    val_main_v0_apply, val_main_v0_apply]
  show BitVec.ofBool ((BitVec.ofNat 32 k.val).slt (BitVec.ofNat 32 p.val)) = _
  have hi : ∀ a : ℕ, a < 2 ^ 31 → (BitVec.ofNat 32 a).toInt = a := fun a h => by
    rw [BitVec.toInt_eq_toNat_of_lt (by rw [BitVec.toNat_ofNat]; omega), BitVec.toNat_ofNat]; omega
  rw [BitVec.slt_eq_decide, hi _ (by omega), hi _ (by omega)]; simp

theorem ref_mask1 (h : Fin 8) (p k : Fin 8192) : val_main_call1_v1 (F := Ideal) (ix4 0 h p k) = BitVec.ofBool (decide (k.val < p.val)) := by
  rw [val_main_call1_v1_apply, eq_ix4 (idx_main_call1_v1 _)]; exact ref_mask p k

theorem ref_mask3 (h : Fin 8) (p k : Fin 8192) : val_main_call3_v1 (F := Ideal) (ix4 0 h p k) = BitVec.ofBool (decide (k.val < p.val)) := by
  rw [val_main_call3_v1_apply, eq_ix4 (idx_main_call3_v1 _)]; exact ref_mask p k

theorem une_self (x : EReal) : Ideal.cmp .une x x = 0#1 := by
  show BitVec.ofBool (decide (x ≠ x)) = _
  simp

theorem ref_sp0 (i : S1x8x8192x8192.Idx) : val_main_v10 (F := Ideal) x0 x1 i = -sp (-(val_main_v3 (F := Ideal) x0 x1 i : EReal)) := by
  pointwise [val_main_v10, val_main_call0_v1, val_main_call0_call0_v4, val_main_call0_call0_v6, val_main_call0_call0_v11,
    val_main_call0_call0_v3, val_main_call0_call0_v5, val_main_call0_call0_v1, val_main_call0_call0_v10, val_main_call0_v0,
    val_main_call0_call0_v2, val_main_call0_call0_v0, val_main_call0_call0_cst, val_main_call0_call0_v9, val_main_call0_call0_v8,
    val_main_call0_call0_v7, sp]
  rw [if_neg (not_not.mpr rfl)]
  rfl

theorem ref_sp1 (i : S1x8x8192x8192.Idx) : val_main_v13 (F := Ideal) x0 x1 i = -sp (-(-(val_main_v3 (F := Ideal) x0 x1 i : EReal))) := by
  pointwise [val_main_v13, val_main_call2_v1, val_main_call2_call0_v4, val_main_call2_call0_v6, val_main_call2_call0_v11,
    val_main_call2_call0_v3, val_main_call2_call0_v5, val_main_call2_call0_v1, val_main_call2_call0_v10, val_main_call2_v0,
    val_main_call2_call0_v2, val_main_call2_call0_v0, val_main_call2_call0_cst, val_main_call2_call0_v9, val_main_call2_call0_v8,
    val_main_call2_call0_v7, val_main_v12, sp]
  rw [if_neg (not_not.mpr rfl)]
  rfl

theorem ref_skip (h : Fin 8) (p k : Fin 8192) : val_main_v14 (F := Ideal) x0 x1 (ix4 0 h p k) = lgm p.val (rz x0 x1 h p) k.val := by
  rw [val_main_v14_apply, ref_mask3, ref_sp1, ref_z]
  unfold lgm lg
  by_cases hk : k.val < p.val
  · simp [hk]; try rfl
  · pointwise [val_main_call3_v2, val_main_call3_v0, hk, val_main_cst_1]
    exact Ideal.ofBits_zero_f32

theorem ofBits_bot : Ideal.ofBits .f32 0xFF800000#32 = ⊥ := by simp [Ideal.ofBits, Ideal.ieee]

theorem ref_own (h : Fin 8) (p k : Fin 8192) :
    val_main_v11 (F := Ideal) x0 x1 (ix4 0 h p k) = if k.val < p.val then -sp (-(rz x0 x1 h p k.val)) else ⊥ := by
  rw [val_main_v11_apply, ref_mask1, ref_sp0, ref_z]
  by_cases hk : k.val < p.val
  · simp [hk]; try rfl
  · pointwise [val_main_call1_v2, val_main_call1_v0, hk, val_main_cst_0]
    exact ofBits_bot

theorem ref_sum (h : Fin 8) (p k : Fin 8192) :
    val_main_v15 (F := Ideal) x0 x1 (ix4 0 h p k) = ∑ j ∈ Finset.Ico k.val 8192, lgm p.val (rz x0 x1 h p) j := by
  have e0 : val_main_call4_v0 (F := Ideal) (Shape.Idx.first h_S_) = (0 : EReal) := by
    rw [val_main_call4_v0_apply, val_main_call4_cst_apply]; exact Ideal.ofBits_zero_f32
  unfold val_main_v15 Host.reduceWindowAdd
  rw [Ideal.hostReduceWindowAdd_def, e0]
  generalize hx : val_main_v14 (F := Ideal) x0 x1 = x
  refine (running_sum 8 8192 8191 x _ h p k).trans ?_
  refine Eq.trans (Finset.sum_congr rfl fun n _ => ?_) (sum_shift 8192 k.val _)
  by_cases hn : k.val + n.val < 8192
  · rw [dif_pos hn, if_pos hn, ← hx]; exact ref_skip x0 x1 h p ⟨_, hn⟩
  · rw [dif_neg hn, if_neg hn]

theorem ref_weight (h : Fin 8) (p k : Fin 8192) :
    val_main_v18 (F := Ideal) x0 x1 (ix4 0 h p k) = wt p.val (rz x0 x1 h p) k.val := by
  have e : val_main_v18 (F := Ideal) x0 x1 (ix4 0 h p k) = Ideal.exp ((val_main_v11 (F := Ideal) x0 x1 (ix4 0 h p k) : EReal)
      + ((val_main_v15 (F := Ideal) x0 x1 (ix4 0 h p k) : EReal) - (val_main_v14 (F := Ideal) x0 x1 (ix4 0 h p k) : EReal))) := rfl
  rw [e, ref_own, ref_sum, ref_skip]
  unfold wt
  by_cases hk : k.val < p.val
  · rw [if_pos hk, if_pos hk, Finset.sum_eq_sum_Ico_succ_bot k.isLt]
    have hl : lgm p.val (rz x0 x1 h p) k.val = lg (rz x0 x1 h p k.val) := if_pos hk
    rw [hl, weight]
  · rw [if_neg hk, if_neg hk, EReal.bot_add, exp_bot]

theorem ref_mix (h : Fin 8) (p : Fin 8192) (d : Fin 128) :
    val_main_v19 (F := Ideal) x0 x1 x2 (ix4 0 h d p) = out p.val (rz x0 x1 h p) (rv x2 h d) 0 := by
  rw [val_main_v19_apply]
  unfold out
  rw [← Finset.range_eq_Ico, Finset.sum_range]
  refine Finset.sum_congr rfl fun k _ => ?_
  have hl : lidx_main_v19 (ix4 0 h d p) k = ix4 0 k h d := by rw [eq_ix4 (lidx_main_v19 _ k)]; rfl
  have hr : ridx_main_v19 (ix4 0 h d p) k = ix4 0 h p k := by rw [eq_ix4 (ridx_main_v19 _ k)]; rfl
  rw [hl, hr, ref_weight, rv, key_val]
  exact mul_comm _ _

/-- The reference's result at row `p`, head `h`, lane `d`. -/
theorem ref_out (h : Fin 8) (p : Fin 8192) (d : Fin 128) :
    val_main_v22 (F := Ideal) x0 x1 x2 (ix2 p ⟨128 * h.val + d.val, by omega⟩) = out p.val (rz x0 x1 h p) (rv x2 h d) 0 := by
  rw [val_main_v22_apply, val_main_v21_apply, val_main_v20_apply]
  refine Eq.trans (congrArg (val_main_v19 (F := Ideal) x0 x1 x2) ?_) (ref_mix x0 x1 x2 h p d)
  refine funext fun a => Fin.ext ?_
  have h0 := h.isLt
  have h1 := p.isLt
  have h2 := d.isLt
  match a with
  | ⟨0, _⟩ => rfl
  | ⟨1, _⟩ => show (p.val * 1024 + (128 * h.val + d.val)) / 128 % 8 = h.val; omega
  | ⟨2, _⟩ => show (p.val * 1024 + (128 * h.val + d.val)) % 128 = d.val; omega
  | ⟨3, _⟩ => show (p.val * 1024 + (128 * h.val + d.val)) / 1024 % 8192 = p.val; omega

end

end Cert.Proof.SB

end
-- ==== Proof.SB.Value.lean ====
/-
  The kernel's result in extended reals, and the equality with the reference.
-/
module

public import proofs.«01_k».proof.Defs
public import proofs.«01_k».proof.Proof.SB.Run
public import proofs.«01_k».proof.Proof.SB.Walk2
public import proofs.«01_k».proof.Proof.SB.Ref
public import Idealize.ShloMosaic.Lib.Pipeline.ValueKit

@[expose] public section

set_option maxRecDepth 16384

noncomputable section

namespace Cert.Proof.SB

open Cert.KernelIdeal Cert.KernelIdeal.Gen
open Idealize.ShloMosaic
open Idealize.ShloMosaic.TcCoe
open Idealize.ShloMosaic.Pipeline (Dat Cfg Window)

variable (m : (ℓ : Loc nD τ sig) → Buf (Elt Ideal) ℓ)

theorem V_q (c : Dev nD) : V m c main_v3 = truncf .bf16 (mulf (shapeCast S8192x1024 (m ((c : Thread nD τ).loc main_arg0)) shapeCasts_S1x8192x8x128_S8192x1024)
    (broadcastInDim S8192x1024 ![] bcast_S_S8192x1024 (constant (F := Ideal) S_ .f32 0x3DB504F3#32))) bitsLt_bf16_f32 := by
  unfold V
  after_results_simp <;> rfl
theorem V_k (c : Dev nD) : V m c main_v5 = truncf .bf16 (F := Ideal) (φ := .f32) (shapeCast S8192x1024 (m ((c : Thread nD τ).loc main_arg1)) shapeCasts_S1x8192x8x128_S8192x1024) bitsLt_bf16_f32 := by
  unfold V
  after_results_simp <;> rfl
theorem V_v (c : Dev nD) : V m c main_v7 = truncf .bf16 (F := Ideal) (φ := .f32) (shapeCast S8192x1024 (m ((c : Thread nD τ).loc main_arg2)) shapeCasts_S1x8192x8x128_S8192x1024) bitsLt_bf16_f32 := by
  unfold V
  after_results_simp <;> rfl

/-- Row `p`, head `h`, lane `d` of a reshaped operand. -/
theorem cast_at (x : (⟨S1x8192x8x128, .f32⟩ : BufTy).Contents (Elt Ideal)) (h : Fin 8) (p : Fin 8192) (d : Fin 128) :
    shapeCast S8192x1024 x shapeCasts_S1x8192x8x128_S8192x1024 (ix2 p ⟨128 * h.val + d.val, by omega⟩) = x (ix4 0 p h d) := by
  have h0 := h.isLt
  have h1 := p.isLt
  have h2 := d.isLt
  refine (shapeCast_apply x shapeCasts_S1x8192x8x128_S8192x1024 _ (ix4 0 p h d) ?_)
  rw [Shape.rowMajor_val_four, Shape.rowMajor_val_two]
  show ((0 * 8192 + p.val) * 8 + h.val) * 128 + d.val = p.val * 1024 + (128 * h.val + d.val)
  omega

theorem q_at (c : Dev nD) (h : Fin 8) (p : Fin 8192) (d : Fin 128) :
    (V m c main_v3 : (⟨S8192x1024, .bf16⟩ : BufTy).Contents (Elt Ideal)) (ix2 p ⟨128 * h.val + d.val, by omega⟩)
      = HMul.hMul (α := EReal) (β := EReal) (γ := EReal) ((m ((c : Thread nD τ).loc main_arg0) : (⟨S1x8192x8x128, .f32⟩ : BufTy).Contents (Elt Ideal)) (ix4 0 p h d)) scale := by
  rw [V_q]
  exact congrArg (fun z : EReal => z * scale) (cast_at _ h p d)
theorem k_at (c : Dev nD) (h : Fin 8) (p : Fin 8192) (d : Fin 128) :
    (V m c main_v5 : (⟨S8192x1024, .bf16⟩ : BufTy).Contents (Elt Ideal)) (ix2 p ⟨128 * h.val + d.val, by omega⟩)
      = (m ((c : Thread nD τ).loc main_arg1) : (⟨S1x8192x8x128, .f32⟩ : BufTy).Contents (Elt Ideal)) (ix4 0 p h d) := by
  rw [V_k]
  exact cast_at _ h p d
theorem v_at (c : Dev nD) (h : Fin 8) (p : Fin 8192) (d : Fin 128) :
    (V m c main_v7 : (⟨S8192x1024, .bf16⟩ : BufTy).Contents (Elt Ideal)) (ix2 p ⟨128 * h.val + d.val, by omega⟩)
      = (m ((c : Thread nD τ).loc main_arg2) : (⟨S1x8192x8x128, .f32⟩ : BufTy).Contents (Elt Ideal)) (ix4 0 p h d) := by
  rw [V_v]
  exact cast_at _ h p d

theorem index_q : ∀ t : Fin (cfg0 (F := Ideal)).N, win0_0.index t = ![(grid0.coords t 1).val, (grid0.coords t 0).val] := by
  decide +kernel
theorem index_k : ∀ t : Fin (cfg0 (F := Ideal)).N, win0_1.index t = ![0, (grid0.coords t 0).val] := by
  decide +kernel
theorem index_v : ∀ t : Fin (cfg0 (F := Ideal)).N, win0_2.index t = ![0, (grid0.coords t 0).val] := by
  decide +kernel
theorem index_o : ∀ t : Fin (cfg0 (F := Ideal)).N, win0_3.index t = ![(grid0.coords t 1).val, (grid0.coords t 0).val] := by
  decide +kernel

/-- The head of lane group `h` at grid point `t`. -/
def headOf (t : Fin (cfg0 (F := Ideal)).N) (h : Fin 4) : Fin 8 :=
  ⟨4 * (grid0.coords t 0).val + h.val, by have := (grid0.coords t 0).isLt; have e : (grid0.coords t 0).val < 2 := this; omega⟩

/-- The query of row `r` at grid point `t`. -/
def queryOf (t : Fin (cfg0 (F := Ideal)).N) (r : Fin 256) : Fin 8192 :=
  ⟨256 * (grid0.coords t 1).val + r.val, by have := (grid0.coords t 1).isLt; have e : (grid0.coords t 1).val < 32 := this; omega⟩

theorem blk_q (c : Dev nD) (t : Fin (cfg0 (F := Ideal)).N) (h : Fin 4) (r : Fin 256) (d : Fin 128) :
    (iblk m c 0 t : Vec Ideal S256x512 .bf16) (ix2 r (lane h d))
      = (V m c main_v3 : (⟨S8192x1024, .bf16⟩ : BufTy).Contents (Elt Ideal)) (ix2 (queryOf t r) ⟨128 * (headOf t h).val + d.val, by omega⟩) := by
  refine congrArg (V m c main_v3) (funext fun a => Fin.ext ?_)
  match a with
  | ⟨0, _⟩ => blk_simp [index_q]; show _ = 256 * (grid0.coords t 1).val + r.val; omega
  | ⟨1, _⟩ =>
    blk_simp [index_q]
    show _ * 512 + (128 * h.val + d.val) = 128 * (4 * (grid0.coords t 0).val + h.val) + d.val; omega
theorem blk_k (c : Dev nD) (t : Fin (cfg0 (F := Ideal)).N) (h : Fin 4) (k : Fin 8192) (d : Fin 128) :
    (iblk m c 1 t : Vec Ideal S8192x512 .bf16) (ix2 k (lane h d))
      = (V m c main_v5 : (⟨S8192x1024, .bf16⟩ : BufTy).Contents (Elt Ideal)) (ix2 k ⟨128 * (headOf t h).val + d.val, by omega⟩) := by
  refine congrArg (V m c main_v5) (funext fun a => Fin.ext ?_)
  match a with
  | ⟨0, _⟩ => blk_simp [index_k]
  | ⟨1, _⟩ =>
    blk_simp [index_k]
    show _ * 512 + (128 * h.val + d.val) = 128 * (4 * (grid0.coords t 0).val + h.val) + d.val; omega
theorem blk_v (c : Dev nD) (t : Fin (cfg0 (F := Ideal)).N) (h : Fin 4) (k : Fin 8192) (d : Fin 128) :
    (iblk m c 2 t : Vec Ideal S8192x512 .bf16) (ix2 k (lane h d))
      = (V m c main_v7 : (⟨S8192x1024, .bf16⟩ : BufTy).Contents (Elt Ideal)) (ix2 k ⟨128 * (headOf t h).val + d.val, by omega⟩) := by
  refine congrArg (V m c main_v7) (funext fun a => Fin.ext ?_)
  match a with
  | ⟨0, _⟩ => blk_simp [index_v]
  | ⟨1, _⟩ =>
    blk_simp [index_v]
    show _ * 512 + (128 * h.val + d.val) = 128 * (4 * (grid0.coords t 0).val + h.val) + d.val; omega

theorem scale_real : ∃ s : ℝ, 0 ≤ s ∧ scale = (s : EReal) := by
  refine ⟨(11863283 : ℝ) / 2 ^ 27, by positivity, ?_⟩
  simp [scale, Ideal.ofBits, Ideal.ieee]
  rw [← EReal.coe_mul, div_eq_mul_inv]

/-- The kernel's logits are the reference's. -/
theorem logits (c : Dev nD) (t : Fin (cfg0 (F := Ideal)).N) (h : Fin 4) (r : Fin 256) :
    lz (iblk m c 0 t) (iblk m c 1 t) h r
      = rz (m ((c : Thread nD τ).loc main_arg0)) (m ((c : Thread nD τ).loc main_arg1)) (headOf t h) (queryOf t r) := by
  funext k
  obtain ⟨s, hs, es⟩ := scale_real
  unfold lz rz
  rw [es, sum_mul_coe _ _ _ hs]
  refine Finset.sum_congr rfl fun d _ => ?_
  rw [blk_q, blk_k, q_at, k_at, es, mul_right_comm]

theorem values (c : Dev nD) (t : Fin (cfg0 (F := Ideal)).N) (h : Fin 4) (d : Fin 128) :
    lv (iblk m c 2 t) h d = rv (m ((c : Thread nD τ).loc main_arg2)) (headOf t h) d := by
  funext k
  unfold lv rv
  rw [blk_v, v_at]

/-- The block at grid point `t`. -/
theorem out_at (c : Dev nD) (t : Fin (cfg0 (F := Ideal)).N) (h : Fin 4) (r : Fin 256) (d : Fin 128) :
    outAt m c t (ix2 r (lane h d)) = ReferenceIdeal.Read.val_main_v22 (F := Ideal)
      (m ((c : Thread nD τ).loc main_arg0)) (m ((c : Thread nD τ).loc main_arg1)) (m ((c : Thread nD τ).loc main_arg2))
      (ix2 (queryOf t r) ⟨128 * (headOf t h).val + d.val, by omega⟩) := by
  have hi : (grid0.coords t 1).val < 32 := (grid0.coords t 1).isLt
  rw [ref_out, ← logits, ← values]
  refine Eq.trans ?_ (final_out (iblk m c 0 t) (iblk m c 1 t) (iblk m c 2 t) _ hi h r d)
  have e1 : (⟨(lane h d).val / 128, by have := (lane h d).isLt; omega⟩ : Fin 4) = h := Fin.ext (by show (128 * h.val + d.val) / 128 = h.val; omega)
  have e2 : (⟨(lane h d).val % 128, Nat.mod_lt _ (by decide)⟩ : Fin 128) = d := Fin.ext (by show (128 * h.val + d.val) % 128 = d.val; omega)
  show (final (iblk m c 0 t) (iblk m c 1 t) (iblk m c 2 t) (grid0.coords t 1).val).acc ⟨(lane h d).val / 128, _⟩ (ix2 r ⟨(lane h d).val % 128, _⟩) = _
  rw [e1, e2]

theorem final_arr (c : Dev nD) : (dats m 0 c).arrAt 3 (cfg0 (F := Ideal)).N = ReferenceIdeal.Read.val_main_v22 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  obtain ⟨r, j, hy⟩ : ∃ (r : Fin 256) (j : Fin 512), y = ix2 r j := ⟨y 0, y 1, eq_ix2 y⟩
  obtain ⟨h, d, hj⟩ : ∃ (h : Fin 4) (d : Fin 128), j = lane h d :=
    ⟨⟨j.val / 128, by omega⟩, ⟨j.val % 128, Nat.mod_lt _ (by decide)⟩, Fin.ext (by show j.val = 128 * (j.val / 128) + j.val % 128; omega)⟩
  subst hy hj
  refine (out_at m c t h r d).trans (congrArg _ (funext fun a => Fin.ext ?_))
  match a with
  | ⟨0, _⟩ => blk_simp [index_o]; show 256 * (grid0.coords t 1).val + r.val = _; omega
  | ⟨1, _⟩ =>
    blk_simp [index_o]
    show 128 * (4 * (grid0.coords t 0).val + h.val) + d.val = _ * 512 + (128 * h.val + d.val); omega

theorem algebraic : Cert.algebraic_KernelIdeal_ReferenceIdeal := by
  intro m g m' g' _ hargs
  refine ⟨fun c => (dats m 0 c).arrAt 3 (cfg0 (F := Ideal)).N, ?_, ?_⟩
  · exact (θ_run defs _ _).mono (fun r h c => ⟨(h.1 c).2, (h.1 c).1⟩) (run_value m g)
  · refine (θ_run ReferenceIdeal.defs _ _).mono (fun r h c => ⟨(h c).1.trans ?_, (h c).2⟩) (ReferenceIdeal.Value.run (F := Ideal) m' g')
    obtain ⟨h0, h1, h2⟩ := hargs c
    refine Eq.trans ?_ (final_arr m c).symm
    rw [ReferenceIdeal.Read.val_main_v22_eq, h0, h1, h2]

end Cert.Proof.SB

end
-- ==== Proof.FF.Frames.lean ====
/-
  The feed-forward call's programs run without fault and leave their arguments; the ideal kernel is the kernel.
-/
module

public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run

@[expose] public section

noncomputable section

namespace Cert.Proof.FF

open Idealize.ShloMosaic Idealize.SL.Sem

theorem frame_ideal : Cert.quiescent_Kernel2Ideal := fun m g _ => Cert.Kernel2Ideal.Gen.frame m g

theorem frame_reference : Cert.quiescent_Reference2Ideal := fun m g _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m g)

theorem frame_kernel : Cert.quiescent_Kernel2 := fun m g _ => Cert.Kernel2.Gen.frame m g

theorem preserves : Cert.preserves_Kernel2_Kernel2Ideal := trivial

end Cert.Proof.FF

end
-- ==== Proof.FF.Spec.lean ====
module

public import proofs.«01_k».proof.Proof.Gen.Kernel2Ideal.Frame
public import Idealize.ShloMosaic.Lib.Pointwise

/-! The feed-forward block's plain values in extended reals, by row and column number; an array is 0 outside its extent. -/

@[expose] public section

set_option maxRecDepth 16384

noncomputable section

namespace Cert.Proof.FF

open Cert.Kernel2Ideal
open Idealize.ShloMosaic

/-- A token's row of an activation. -/
def row (a : (⟨S1x8192x2048, .f32⟩ : BufTy).Contents (Elt Ideal)) (p : ℕ) (d : Fin 2048) : EReal :=
  if h : p < 8192 then a (ix3 0 ⟨p, h⟩ d) else 0
/-- A column of a weight, 0 from column 5504 on. -/
def col (w : (⟨S2048x5504, .f32⟩ : BufTy).Contents (Elt Ideal)) (d : Fin 2048) (j : ℕ) : EReal :=
  if h : j < 5504 then w (ix2 d ⟨j, h⟩) else 0
/-- A tap of the convolution. -/
def tap (w : (⟨S3x5504, .f32⟩ : BufTy).Contents (Elt Ideal)) (k : Fin 3) (j : ℕ) : EReal :=
  if h : j < 5504 then w (ix2 k ⟨j, h⟩) else 0
/-- The convolution's bias. -/
def bias (b : (⟨S5504, .f32⟩ : BufTy).Contents (Elt Ideal)) (j : ℕ) : EReal :=
  if h : j < 5504 then b (ix1 ⟨j, h⟩) else 0
/-- A row of the down projection, 0 from row 5504 on. -/
def down (w : (⟨S5504x2048, .f32⟩ : BufTy).Contents (Elt Ideal)) (j : ℕ) (n : Fin 2048) : EReal :=
  if h : j < 5504 then w (ix2 ⟨j, h⟩ n) else 0

/-- A projection of token `p` on column `j`. -/
def proj (a : (⟨S1x8192x2048, .f32⟩ : BufTy).Contents (Elt Ideal)) (w : (⟨S2048x5504, .f32⟩ : BufTy).Contents (Elt Ideal)) (p j : ℕ) : EReal :=
  ∑ d : Fin 2048, row a p d * col w d j

/-- The value `k` tokens before token `p`, 0 before the first token. -/
def back (g : ℕ → EReal) (k p : ℕ) : EReal := if p < k then 0 else g (p - k)

/-- The convolution's value from its three taps. -/
def conv (b w0 w1 w2 g2 g1 g0 : EReal) : EReal := ((b + w0 * g2) + w1 * g1) + w2 * g0

/-- The gated value. -/
def gated (c u : EReal) : EReal := Ideal.div c (1 + Ideal.exp (0 - c)) * u

variable (h x : (⟨S1x8192x2048, .f32⟩ : BufTy).Contents (Elt Ideal)) (wg wu : (⟨S2048x5504, .f32⟩ : BufTy).Contents (Elt Ideal))
  (cw : (⟨S3x5504, .f32⟩ : BufTy).Contents (Elt Ideal)) (cb : (⟨S5504, .f32⟩ : BufTy).Contents (Elt Ideal))
  (wd : (⟨S5504x2048, .f32⟩ : BufTy).Contents (Elt Ideal)) (gf : (⟨S2048, .f32⟩ : BufTy).Contents (Elt Ideal))

/-- The hidden value of token `p` at column `j`. -/
def hid (p j : ℕ) : EReal :=
  gated (conv (bias cb j) (tap cw 0 j) (tap cw 1 j) (tap cw 2 j)
    (back (fun q => proj h wg q j) 2 p) (back (fun q => proj h wg q j) 1 p) (proj h wg p j)) (proj h wu p j)

/-- Column `j`'s part of the feed-forward value of token `p` at lane `n`. -/
def part (p : ℕ) (n : Fin 2048) (j : ℕ) : EReal := hid h wg wu cw cb p j * down wd j n

/-- The residual sum. -/
def res (p : ℕ) (n : Fin 2048) : EReal := row x p n + ∑ j ∈ Finset.range 5504, part h wg wu cw cb wd p n j

/-- The root-mean-square norm of a row, scaled. -/
def rms (y : Fin 2048 → EReal) (g : Fin 2048 → EReal) (n : Fin 2048) : EReal :=
  y n * Ideal.rsqrt (Ideal.div (∑ k, y k * y k) (Ideal.ofBits .f32 0x45000000#32) + Ideal.ofBits .f32 0x358637BD#32) * g n

/-- The block's value of token `p` at lane `n`. -/
def val (p : ℕ) (n : Fin 2048) : EReal := rms (res h x wg wu cw cb wd p) (fun k => gf (ix1 k)) n

/-- The columns of the padded width add nothing: eleven blocks of 512 columns give the sum over 5504. -/
theorem part_of_le (p : ℕ) (n : Fin 2048) (j : ℕ) (hj : 5504 ≤ j) : part h wg wu cw cb wd p n j = 0 := by
  unfold part down
  rw [dif_neg (by omega), mul_zero]

theorem sum_blocks (f : ℕ → EReal) (hf : ∀ j, 5504 ≤ j → f j = 0) :
    ∑ k ∈ Finset.range 11, ∑ l : Fin 512, f (512 * k + l.val) = ∑ j ∈ Finset.range 5504, f j := by
  have e : ∀ K : ℕ, ∑ k ∈ Finset.range K, ∑ l : Fin 512, f (512 * k + l.val) = ∑ j ∈ Finset.range (512 * K), f j := by
    intro K
    induction K with
    | zero => simp
    | succ K ih =>
      rw [Finset.sum_range_succ, ih, Nat.mul_succ, Finset.sum_range_add, Fin.sum_univ_eq_sum_range (fun l => f (512 * K + l)) 512]
  rw [e 11, show 512 * 11 = 5504 + 128 from rfl, Finset.sum_range_add]
  rw [Finset.sum_eq_zero (s := Finset.range 128) (fun j _ => hf _ (by omega)), add_zero]

end Cert.Proof.FF

end
-- ==== Proof.FF.Pay.lean ====
module

public import proofs.«01_k».proof.Proof.FF.Spec
public import Idealize.ShloMosaic.Lib.KernelVsHost
public import Idealize.ShloMosaic.Lib.Pipeline.ValueKit

/-! The kernel body's values, read at a row and a lane. -/

@[expose] public section

set_option maxRecDepth 16384

noncomputable section

namespace Cert.Proof.FF

open Cert.Kernel2Ideal Cert.Kernel2Ideal.Gen
open Idealize.ShloMosaic
open Idealize.ShloMosaic.TcCoe

theorem pay4_at (x : Vec Ideal S512x2048 .bf16) (w : Vec Ideal S2048x512 .bf16) (r l : Fin 512) :
    k0_pay4 x w (ix2 r l) = ∑ d : Fin 2048, (x (ix2 r d) : EReal) * (w (ix2 d l) : EReal) := by
  pointwise [k0_pay4, k0_pay3]
theorem pay5_at (x : Vec Ideal S512x2048 .bf16) (w : Vec Ideal S2048x512 .bf16) (r l : Fin 512) :
    k0_pay5 x w (ix2 r l) = ∑ d : Fin 2048, (x (ix2 r d) : EReal) * (w (ix2 d l) : EReal) := by
  pointwise [k0_pay5, k0_pay3]
theorem pay6_at (x : Vec Ideal S512x2048 .bf16) (w : Vec Ideal S2048x512 .bf16) (r l : Fin 512) :
    k0_pay6 x w (ix2 r l) = k0_pay4 x w (ix2 ⟨(r.val + 512 - 1) % 512, Nat.mod_lt _ (by decide)⟩ l) := by
  unfold k0_pay6
  generalize k0_pay4 x w = g
  pointwise []
theorem pay7_at (x : Vec Ideal S512x2048 .bf16) (w : Vec Ideal S2048x512 .bf16) (r l : Fin 512) :
    k0_pay7 x w (ix2 r l) = k0_pay4 x w (ix2 ⟨(r.val + 512 - 2) % 512, Nat.mod_lt _ (by decide)⟩ l) := by
  unfold k0_pay7
  generalize k0_pay4 x w = g
  pointwise []
theorem pay8_at (x : Vec Ideal S512x2048 .bf16) (w : Vec Ideal S2048x512 .bf16) (r : Fin 8) (l : Fin 512) :
    k0_pay8 x w (ix2 r l) = k0_pay4 x w (ix2 ⟨504 + r.val, by omega⟩ l) := by
  unfold k0_pay8
  generalize k0_pay4 x w = g
  pointwise []
theorem pos_flag (i : ℕ) (h : i < 16) :
    ((Scalar.extui (Scalar.cmpi CmpIPredicate.sgt (BitVec.ofNat 32 i) 0#32) : BitVec 32).toInt) = if i = 0 then 0 else 1 := by
  revert h; revert i; decide
theorem pay9_at (i : grid0.Coords) (x : Vec Ideal S16x2048 .bf16) (w : Vec Ideal S2048x512 .bf16) (r : Fin 16) (l : Fin 512) :
    k0_pay9 i x w (ix2 r l) = if (i 0).val = 0 then 0 else ∑ d : Fin 2048, (x (ix2 r d) : EReal) * (w (ix2 d l) : EReal) := by
  pointwise [k0_pay9]
  rw [pos_flag (i 0).val (i 0).isLt]
  split <;> simp
theorem pay10_at (i : grid0.Coords) (x : Vec Ideal S512x2048 .bf16) (w : Vec Ideal S2048x512 .bf16) (y : Vec Ideal S16x2048 .bf16) (w' : Vec Ideal S2048x512 .bf16) (r : Fin 8) (l : Fin 512) :
    k0_pay10 i x w y w' (ix2 r l) = if r.val < 1 then k0_pay9 i y w' (ix2 ⟨(r.val + 16 - 1) % 16, Nat.mod_lt _ (by decide)⟩ l)
      else k0_pay6 x w (ix2 ⟨r.val, by omega⟩ l) := by
  unfold k0_pay10
  generalize k0_pay6 x w = g
  generalize k0_pay9 i y w' = g'
  pointwise []
  have f : ∀ k : ℕ, k < 8 → IntOp.cmpi CmpIPredicate.slt (BitVec.ofNat 32 k) 1#32 = if k < 1 then 1#1 else 0#1 := by decide
  rw [f r.val r.isLt]
  split <;> rfl
theorem pay12_at (v7 v10 v11 v12 : FVec Ideal S512x512 .f32) (v24 : FVec Ideal S16x512 .f32)
    (v31 : FVec Ideal S8x512 .f32) (v42 : Vec Ideal S3x512 .f32) (v44 : Vec Ideal S1x512 .f32) (v66 : Vec Ideal S512x2048 .f32) (v68 : Vec Ideal S512x2048 .bf16) (r : Fin 512) (n : Fin 2048)
    (G2 G1 : Fin 512 → EReal)
    (h2 : ∀ l : Fin 512, (if h : r.val < 8 then Scalar.select (IntOp.cmpi CmpIPredicate.slt (BitVec.ofNat 32 r.val) 2#32)
        (v24 (ix2 ⟨(r.val + 16 - 2) % 16, Nat.mod_lt _ (by decide)⟩ l)) (v12 (ix2 r l)) else v12 (ix2 ⟨8 + (r.val - 8), by omega⟩ l)) = G2 l)
    (h1 : ∀ l : Fin 512, (if h : r.val < 8 then v31 (ix2 ⟨r.val, h⟩ l) else v11 (ix2 ⟨8 + (r.val - 8), by omega⟩ l)) = G1 l) :
    k0_pay12 v7 v10 v11 v12 v24 (iota Kind.tc S8x512 32 [0] iota_S8x512_d0_w32) v31 k0_pay11 v42 v44 v66 v68 (ix2 r n)
      = (v66 (ix2 r n) : EReal) + ∑ l : Fin 512, gated (conv (v44 (ix2 0 l)) (v42 (ix2 0 l)) (v42 (ix2 1 l)) (v42 (ix2 2 l)) (G2 l) (G1 l) (v7 (ix2 r l))) (v10 (ix2 r l)) * (v68 (ix2 l n) : EReal) := by
  pointwise [k0_pay12, k0_pay11]
  refine congrArg (_ + ·) (Finset.sum_congr rfl fun l _ => ?_)
  rw [h2 l, h1 l]
  rfl
theorem pay1_at (x : Vec Ideal S512x2048 .f32) (a : Vec Ideal S512x2048 .f32) (g : Vec Ideal S1x2048 .f32) (r : Fin 512) (n : Fin 2048) :
    k0_pay1 x a g (ix2 r n) = rms (fun k => (x (ix2 r k) : EReal) + (a (ix2 r k) : EReal)) (fun k => g (ix2 0 k)) n := by
  pointwise [k0_pay1]
  rfl

/-- Two rows back inside a block of 512 rows, the block before it giving the first two. -/
theorem back_two (P : ℕ → EReal) (i : ℕ) (v : Fin 512 → EReal) (e : Fin 16 → EReal) (hv : ∀ r, v r = P (512 * i + r.val))
    (he : ∀ r, e r = if i = 0 then 0 else P (512 * i - 16 + r.val)) (r : Fin 512) :
    (if h : r.val < 8 then Scalar.select (IntOp.cmpi CmpIPredicate.slt (BitVec.ofNat 32 r.val) 2#32)
        (e ⟨(r.val + 16 - 2) % 16, Nat.mod_lt _ (by decide)⟩) (v ⟨(r.val + 512 - 2) % 512, Nat.mod_lt _ (by decide)⟩)
      else v ⟨(8 + (r.val - 8) + 512 - 2) % 512, Nat.mod_lt _ (by decide)⟩) = back P 2 (512 * i + r.val) := by
  have hr := r.isLt
  have f : r.val < 8 → IntOp.cmpi CmpIPredicate.slt (BitVec.ofNat 32 r.val) 2#32 = if r.val < 2 then 1#1 else 0#1 := by
    generalize r.val = k
    revert k; decide
  unfold back
  by_cases h8 : r.val < 8
  · rw [dif_pos h8, f h8]
    by_cases h2 : r.val < 2
    · rw [if_pos h2]
      refine (he _).trans ?_
      by_cases hi : i = 0
      · rw [if_pos hi, if_pos (by omega)]
      · rw [if_neg hi, if_neg (by omega)]
        exact congrArg P (by show 512 * i - 16 + (r.val + 16 - 2) % 16 = _; omega)
    · rw [if_neg h2]
      refine (hv _).trans ?_
      rw [if_neg (by omega)]
      exact congrArg P (by show 512 * i + (r.val + 512 - 2) % 512 = _; omega)
  · rw [dif_neg h8, hv, if_neg (by omega)]
    exact congrArg P (by show 512 * i + (8 + (r.val - 8) + 512 - 2) % 512 = _; omega)

theorem back_one (P : ℕ → EReal) (i : ℕ) (v : Fin 512 → EReal) (e : Fin 16 → EReal) (hv : ∀ r, v r = P (512 * i + r.val))
    (he : ∀ r, e r = if i = 0 then 0 else P (512 * i - 16 + r.val)) (r : Fin 512) :
    (if h : r.val < 8 then (if r.val < 1 then e ⟨(r.val + 16 - 1) % 16, Nat.mod_lt _ (by decide)⟩ else v ⟨(r.val + 512 - 1) % 512, Nat.mod_lt _ (by decide)⟩)
      else v ⟨(8 + (r.val - 8) + 512 - 1) % 512, Nat.mod_lt _ (by decide)⟩) = back P 1 (512 * i + r.val) := by
  have hr := r.isLt
  unfold back
  by_cases h8 : r.val < 8
  · rw [dif_pos h8]
    by_cases h2 : r.val < 1
    · rw [if_pos h2, he]
      by_cases hi : i = 0
      · rw [if_pos hi, if_pos (by omega)]
      · rw [if_neg hi, if_neg (by omega)]
        exact congrArg P (by show 512 * i - 16 + (r.val + 16 - 1) % 16 = _; omega)
    · rw [if_neg h2, hv, if_neg (by omega)]
      exact congrArg P (by show 512 * i + (r.val + 512 - 1) % 512 = _; omega)
  · rw [dif_neg h8, hv, if_neg (by omega)]
    exact congrArg P (by show 512 * i + (8 + (r.val - 8) + 512 - 1) % 512 = _; omega)

end Cert.Proof.FF

end
-- ==== Proof.FF.Blocks.lean ====
module

public import proofs.«01_k».proof.Proof.FF.Pay
public import Idealize.ShloMosaic.Lib.Claim

/-! The blocks the call reads at a grid point, as rows and columns of the arguments. -/

@[expose] public section

set_option maxRecDepth 16384

noncomputable section

namespace Cert.Proof.FF

open Cert.Kernel2Ideal Cert.Kernel2Ideal.Gen
open Idealize.ShloMosaic
open Idealize.ShloMosaic.TcCoe
open Idealize.ShloMosaic.Pipeline (Dat Cfg Window)

variable (m : (ℓ : Loc nD τ sig) → Buf (Elt Ideal) ℓ)

theorem V_wg (c : Dev nD) : V m c main_v1 = truncf .bf16 (F := Ideal) (φ := .f32) (pad S2048x5632 ![0, 0] ![0, 128] ![0, 0] (m ((c : Thread nD τ).loc main_arg2))
    (sitofp (F := Ideal) .f32 (constantI S_ 32 0#32)) pads_S2048x5504_S2048x5632_000_01280 h_S_) bitsLt_bf16_f32 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_wu (c : Dev nD) : V m c main_v3 = truncf .bf16 (F := Ideal) (φ := .f32) (pad S2048x5632 ![0, 0] ![0, 128] ![0, 0] (m ((c : Thread nD τ).loc main_arg3))
    (sitofp (F := Ideal) .f32 (constantI S_ 32 0#32)) pads_S2048x5504_S2048x5632_000_01280 h_S_) bitsLt_bf16_f32 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_wd (c : Dev nD) : V m c main_v5 = truncf .bf16 (F := Ideal) (φ := .f32) (pad S5632x2048 ![0, 0] ![128, 0] ![0, 0] (m ((c : Thread nD τ).loc main_arg6))
    (sitofp (F := Ideal) .f32 (constantI S_ 32 0#32)) pads_S5504x2048_S5632x2048_01280_000 h_S_) bitsLt_bf16_f32 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_cw (c : Dev nD) : V m c main_v6 = pad S3x5632 ![0, 0] ![0, 128] ![0, 0] (m ((c : Thread nD τ).loc main_arg4))
    (sitofp (F := Ideal) .f32 (constantI S_ 32 0#32)) pads_S3x5504_S3x5632_000_01280 h_S_ := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_cb (c : Dev nD) : V m c main_v11 = shapeCast S1x5632 (pad S5632 ![0] ![128] ![0] (m ((c : Thread nD τ).loc main_arg5))
    (sitofp (F := Ideal) .f32 (constantI S_ 32 0#32)) pads_S5504_S5632_01280 h_S_) shapeCasts_S5632_S1x5632 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_h (c : Dev nD) : V m c main_v9 = truncf .bf16 (F := Ideal) (φ := .f32) (shapeCast S8192x2048 (m ((c : Thread nD τ).loc main_arg0)) shapeCasts_S1x8192x2048_S8192x2048) bitsLt_bf16_f32 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_x (c : Dev nD) : V m c main_v10 = shapeCast S8192x2048 (m ((c : Thread nD τ).loc main_arg1)) shapeCasts_S1x8192x2048_S8192x2048 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl
theorem V_gf (c : Dev nD) : V m c main_v12 = shapeCast S1x2048 (m ((c : Thread nD τ).loc main_arg7)) shapeCasts_S2048_S1x2048 := by
  unfold V V0
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp <;> rfl

theorem zero_cst (i : S_.Idx) : sitofp (F := Ideal) .f32 (constantI S_ 32 0#32) i = (0 : EReal) := by
  show (((0#32 : BitVec 32).toInt : ℝ) : EReal) = 0
  simp

theorem pad_col (x : (⟨S2048x5504, .f32⟩ : BufTy).Contents (Elt Ideal)) (d : Fin 2048) (j : Fin 5632) :
    pad S2048x5632 ![0, 0] ![0, 128] ![0, 0] x (sitofp (F := Ideal) .f32 (constantI S_ 32 0#32)) pads_S2048x5504_S2048x5632_000_01280 h_S_ (ix2 d j) = col x d j.val := by
  unfold col
  by_cases h : j.val < 5504
  · rw [dif_pos h]
    refine pad_apply_of_inside _ _ _ _ _ _ _ _ (ix2 d ⟨j.val, h⟩) fun a => ?_
    match a with
    | ⟨0, _⟩ => show d.val = 0 + d.val * (0 + 1); omega
    | ⟨1, _⟩ => show j.val = 0 + j.val * (0 + 1); omega
  · rw [dif_neg h]
    refine (pad_apply_of_not_inside _ _ _ _ _ _ _ _ (1 : Fin 2) ?_).trans (zero_cst _)
    show ¬(0 ≤ j.val ∧ (j.val - 0) % (0 + 1) = 0 ∧ (j.val - 0) / (0 + 1) < 5504)
    omega
theorem pad_tap (x : (⟨S3x5504, .f32⟩ : BufTy).Contents (Elt Ideal)) (d : Fin 3) (j : Fin 5632) :
    pad S3x5632 ![0, 0] ![0, 128] ![0, 0] x (sitofp (F := Ideal) .f32 (constantI S_ 32 0#32)) pads_S3x5504_S3x5632_000_01280 h_S_ (ix2 d j) = tap x d j.val := by
  unfold tap
  by_cases h : j.val < 5504
  · rw [dif_pos h]
    refine pad_apply_of_inside _ _ _ _ _ _ _ _ (ix2 d ⟨j.val, h⟩) fun a => ?_
    match a with
    | ⟨0, _⟩ => show d.val = 0 + d.val * (0 + 1); omega
    | ⟨1, _⟩ => show j.val = 0 + j.val * (0 + 1); omega
  · rw [dif_neg h]
    refine (pad_apply_of_not_inside _ _ _ _ _ _ _ _ (1 : Fin 2) ?_).trans (zero_cst _)
    show ¬(0 ≤ j.val ∧ (j.val - 0) % (0 + 1) = 0 ∧ (j.val - 0) / (0 + 1) < 5504)
    omega
theorem pad_down (x : (⟨S5504x2048, .f32⟩ : BufTy).Contents (Elt Ideal)) (j : Fin 5632) (n : Fin 2048) :
    pad S5632x2048 ![0, 0] ![128, 0] ![0, 0] x (sitofp (F := Ideal) .f32 (constantI S_ 32 0#32)) pads_S5504x2048_S5632x2048_01280_000 h_S_ (ix2 j n) = down x j.val n := by
  unfold down
  by_cases h : j.val < 5504
  · rw [dif_pos h]
    refine pad_apply_of_inside _ _ _ _ _ _ _ _ (ix2 ⟨j.val, h⟩ n) fun a => ?_
    match a with
    | ⟨0, _⟩ => show j.val = 0 + j.val * (0 + 1); omega
    | ⟨1, _⟩ => show n.val = 0 + n.val * (0 + 1); omega
  · rw [dif_neg h]
    refine (pad_apply_of_not_inside _ _ _ _ _ _ _ _ (0 : Fin 2) ?_).trans (zero_cst _)
    show ¬(0 ≤ j.val ∧ (j.val - 0) % (0 + 1) = 0 ∧ (j.val - 0) / (0 + 1) < 5504)
    omega
theorem pad_bias (x : (⟨S5504, .f32⟩ : BufTy).Contents (Elt Ideal)) (j : Fin 5632) :
    pad S5632 ![0] ![128] ![0] x (sitofp (F := Ideal) .f32 (constantI S_ 32 0#32)) pads_S5504_S5632_01280 h_S_ (ix1 j) = bias x j.val := by
  unfold bias
  by_cases h : j.val < 5504
  · rw [dif_pos h]
    refine pad_apply_of_inside _ _ _ _ _ _ _ _ (ix1 ⟨j.val, h⟩) fun a => ?_
    match a with
    | ⟨0, _⟩ => show j.val = 0 + j.val * (0 + 1); omega
  · rw [dif_neg h]
    refine (pad_apply_of_not_inside _ _ _ _ _ _ _ _ (0 : Fin 1) ?_).trans (zero_cst _)
    show ¬(0 ≤ j.val ∧ (j.val - 0) % (0 + 1) = 0 ∧ (j.val - 0) / (0 + 1) < 5504)
    omega

theorem wg_at (c : Dev nD) (d : Fin 2048) (j : Fin 5632) :
    (V m c main_v1 : (⟨S2048x5632, .bf16⟩ : BufTy).Contents (Elt Ideal)) (ix2 d j) = col (m ((c : Thread nD τ).loc main_arg2)) d j.val := by
  rw [V_wg]
  exact pad_col _ d j
theorem wu_at (c : Dev nD) (d : Fin 2048) (j : Fin 5632) :
    (V m c main_v3 : (⟨S2048x5632, .bf16⟩ : BufTy).Contents (Elt Ideal)) (ix2 d j) = col (m ((c : Thread nD τ).loc main_arg3)) d j.val := by
  rw [V_wu]
  exact pad_col _ d j
theorem wd_at (c : Dev nD) (j : Fin 5632) (n : Fin 2048) :
    (V m c main_v5 : (⟨S5632x2048, .bf16⟩ : BufTy).Contents (Elt Ideal)) (ix2 j n) = down (m ((c : Thread nD τ).loc main_arg6)) j.val n := by
  rw [V_wd]
  exact pad_down _ j n
theorem cw_at (c : Dev nD) (k : Fin 3) (j : Fin 5632) :
    (V m c main_v6 : (⟨S3x5632, .f32⟩ : BufTy).Contents (Elt Ideal)) (ix2 k j) = tap (m ((c : Thread nD τ).loc main_arg4)) k j.val := by
  rw [V_cw]
  exact pad_tap _ k j
theorem cb_at (c : Dev nD) (j : Fin 5632) :
    (V m c main_v11 : (⟨S1x5632, .f32⟩ : BufTy).Contents (Elt Ideal)) (ix2 0 j) = bias (m ((c : Thread nD τ).loc main_arg5)) j.val := by
  rw [V_cb]
  refine (shapeCast_apply _ shapeCasts_S5632_S1x5632 _ (ix1 j) ?_).trans (pad_bias _ j)
  rw [Shape.rowMajor_val_one, Shape.rowMajor_val_two]
  show j.val = 0 * 5632 + j.val
  omega
theorem cast_row (x : (⟨S1x8192x2048, .f32⟩ : BufTy).Contents (Elt Ideal)) (p : Fin 8192) (d : Fin 2048) :
    shapeCast S8192x2048 x shapeCasts_S1x8192x2048_S8192x2048 (ix2 p d) = row x p.val d := by
  unfold row
  rw [dif_pos p.isLt]
  refine (shapeCast_apply x shapeCasts_S1x8192x2048_S8192x2048 _ (ix3 0 p d) ?_)
  rw [Shape.rowMajor_val_three, Shape.rowMajor_val_two]
  show (0 * 8192 + p.val) * 2048 + d.val = p.val * 2048 + d.val
  omega
theorem h_at (c : Dev nD) (p : Fin 8192) (d : Fin 2048) :
    (V m c main_v9 : (⟨S8192x2048, .bf16⟩ : BufTy).Contents (Elt Ideal)) (ix2 p d) = row (m ((c : Thread nD τ).loc main_arg0)) p.val d := by
  rw [V_h]
  exact cast_row _ p d
theorem x_at (c : Dev nD) (p : Fin 8192) (d : Fin 2048) :
    (V m c main_v10 : (⟨S8192x2048, .f32⟩ : BufTy).Contents (Elt Ideal)) (ix2 p d) = row (m ((c : Thread nD τ).loc main_arg1)) p.val d := by
  rw [V_x]
  exact cast_row _ p d
theorem gf_at (c : Dev nD) (n : Fin 2048) :
    (V m c main_v12 : (⟨S1x2048, .f32⟩ : BufTy).Contents (Elt Ideal)) (ix2 0 n) = (m ((c : Thread nD τ).loc main_arg7) : (⟨S2048, .f32⟩ : BufTy).Contents (Elt Ideal)) (ix1 n) := by
  rw [V_gf]
  refine (shapeCast_apply _ shapeCasts_S2048_S1x2048 _ (ix1 n) ?_)
  rw [Shape.rowMajor_val_one, Shape.rowMajor_val_two]
  show n.val = 0 * 2048 + n.val
  omega

/-- The row block and the column block of a grid point. -/
theorem coords0 : ∀ t : Fin cfg0.N, (grid0.coords t 0).val = t.val / 11 := by decide +kernel
theorem coords1 : ∀ t : Fin cfg0.N, (grid0.coords t 1).val = t.val % 11 := by decide +kernel

theorem index_0 : ∀ t : Fin cfg0.N, win0_0.index t = ![t.val / 11, 0] := by decide +kernel
theorem index_1 : ∀ t : Fin cfg0.N, win0_1.index t = ![32 * (t.val / 11) - 1, 0] := by decide +kernel
theorem index_2 : ∀ t : Fin cfg0.N, win0_2.index t = ![t.val / 11, 0] := by decide +kernel
theorem index_3 : ∀ t : Fin cfg0.N, win0_3.index t = ![0, t.val % 11] := by decide +kernel
theorem index_4 : ∀ t : Fin cfg0.N, win0_4.index t = ![0, t.val % 11] := by decide +kernel
theorem index_5 : ∀ t : Fin cfg0.N, win0_5.index t = ![t.val % 11, 0] := by decide +kernel
theorem index_6 : ∀ t : Fin cfg0.N, win0_6.index t = ![0, t.val % 11] := by decide +kernel
theorem index_7 : ∀ t : Fin cfg0.N, win0_7.index t = ![0, t.val % 11] := by decide +kernel
theorem index_8 : ∀ t : Fin cfg0.N, win0_8.index t = ![0, 0] := by decide +kernel
theorem index_9 : ∀ t : Fin cfg0.N, win0_9.index t = ![t.val / 11, 0] := by decide +kernel
theorem index_10 : ∀ t : Fin cfg0.N, win0_10.index t = ![t.val / 11, t.val % 11] := by decide +kernel

theorem lt_N (t : Fin cfg0.N) : t.val < 176 := t.isLt

theorem blk_0 (c : Dev nD) (t : Fin cfg0.N) (r : Fin 512) (d : Fin 2048) :
    (iblk m c 0 t : Vec Ideal S512x2048 .bf16) (ix2 r d) = row (m ((c : Thread nD τ).loc main_arg0)) (512 * (t.val / 11) + r.val) d := by
  have ht := lt_N t
  refine Eq.trans ?_ (h_at m c ⟨512 * (t.val / 11) + r.val, by omega⟩ d)
  refine congrArg (V m c main_v9) (funext fun a => Fin.ext ?_)
  match a with
  | ⟨0, _⟩ => blk_simp [index_0]; show _ = 512 * (t.val / 11) + r.val; omega
  | ⟨1, _⟩ => blk_simp [index_0]
theorem blk_1 (c : Dev nD) (t : Fin cfg0.N) (r : Fin 16) (d : Fin 2048) (h0 : t.val / 11 ≠ 0) :
    (iblk m c 1 t : Vec Ideal S16x2048 .bf16) (ix2 r d) = row (m ((c : Thread nD τ).loc main_arg0)) (512 * (t.val / 11) - 16 + r.val) d := by
  have ht := lt_N t
  refine Eq.trans ?_ (h_at m c ⟨512 * (t.val / 11) - 16 + r.val, by omega⟩ d)
  refine congrArg (V m c main_v9) (funext fun a => Fin.ext ?_)
  match a with
  | ⟨0, _⟩ => blk_simp [index_1]; show _ = 512 * (t.val / 11) - 16 + r.val; omega
  | ⟨1, _⟩ => blk_simp [index_1]
theorem blk_2 (c : Dev nD) (t : Fin cfg0.N) (r : Fin 512) (d : Fin 2048) :
    (iblk m c 2 t : Vec Ideal S512x2048 .f32) (ix2 r d) = row (m ((c : Thread nD τ).loc main_arg1)) (512 * (t.val / 11) + r.val) d := by
  have ht := lt_N t
  refine Eq.trans ?_ (x_at m c ⟨512 * (t.val / 11) + r.val, by omega⟩ d)
  refine congrArg (V m c main_v10) (funext fun a => Fin.ext ?_)
  match a with
  | ⟨0, _⟩ => blk_simp [index_2]; show _ = 512 * (t.val / 11) + r.val; omega
  | ⟨1, _⟩ => blk_simp [index_2]
theorem blk_3 (c : Dev nD) (t : Fin cfg0.N) (d : Fin 2048) (l : Fin 512) :
    (iblk m c 3 t : Vec Ideal S2048x512 .bf16) (ix2 d l) = col (m ((c : Thread nD τ).loc main_arg2)) d (512 * (t.val % 11) + l.val) := by
  refine Eq.trans ?_ (wg_at m c d ⟨512 * (t.val % 11) + l.val, by omega⟩)
  refine congrArg (V m c main_v1) (funext fun a => Fin.ext ?_)
  match a with
  | ⟨0, _⟩ => blk_simp [index_3]
  | ⟨1, _⟩ => blk_simp [index_3]; show _ = 512 * (t.val % 11) + l.val; omega
theorem blk_4 (c : Dev nD) (t : Fin cfg0.N) (d : Fin 2048) (l : Fin 512) :
    (iblk m c 4 t : Vec Ideal S2048x512 .bf16) (ix2 d l) = col (m ((c : Thread nD τ).loc main_arg3)) d (512 * (t.val % 11) + l.val) := by
  refine Eq.trans ?_ (wu_at m c d ⟨512 * (t.val % 11) + l.val, by omega⟩)
  refine congrArg (V m c main_v3) (funext fun a => Fin.ext ?_)
  match a with
  | ⟨0, _⟩ => blk_simp [index_4]
  | ⟨1, _⟩ => blk_simp [index_4]; show _ = 512 * (t.val % 11) + l.val; omega
theorem blk_5 (c : Dev nD) (t : Fin cfg0.N) (l : Fin 512) (n : Fin 2048) :
    (iblk m c 5 t : Vec Ideal S512x2048 .bf16) (ix2 l n) = down (m ((c : Thread nD τ).loc main_arg6)) (512 * (t.val % 11) + l.val) n := by
  refine Eq.trans ?_ (wd_at m c ⟨512 * (t.val % 11) + l.val, by omega⟩ n)
  refine congrArg (V m c main_v5) (funext fun a => Fin.ext ?_)
  match a with
  | ⟨0, _⟩ => blk_simp [index_5]; show _ = 512 * (t.val % 11) + l.val; omega
  | ⟨1, _⟩ => blk_simp [index_5]
theorem blk_6 (c : Dev nD) (t : Fin cfg0.N) (k : Fin 3) (l : Fin 512) :
    (iblk m c 6 t : Vec Ideal S3x512 .f32) (ix2 k l) = tap (m ((c : Thread nD τ).loc main_arg4)) k (512 * (t.val % 11) + l.val) := by
  refine Eq.trans ?_ (cw_at m c k ⟨512 * (t.val % 11) + l.val, by omega⟩)
  refine congrArg (V m c main_v6) (funext fun a => Fin.ext ?_)
  match a with
  | ⟨0, _⟩ => blk_simp [index_6]
  | ⟨1, _⟩ => blk_simp [index_6]; show _ = 512 * (t.val % 11) + l.val; omega
theorem blk_7 (c : Dev nD) (t : Fin cfg0.N) (l : Fin 512) :
    (iblk m c 7 t : Vec Ideal S1x512 .f32) (ix2 0 l) = bias (m ((c : Thread nD τ).loc main_arg5)) (512 * (t.val % 11) + l.val) := by
  refine Eq.trans ?_ (cb_at m c ⟨512 * (t.val % 11) + l.val, by omega⟩)
  refine congrArg (V m c main_v11) (funext fun a => Fin.ext ?_)
  match a with
  | ⟨0, _⟩ => blk_simp [index_7]
  | ⟨1, _⟩ => blk_simp [index_7]; show _ = 512 * (t.val % 11) + l.val; omega
theorem blk_8 (c : Dev nD) (t : Fin cfg0.N) (n : Fin 2048) :
    (iblk m c 8 t : Vec Ideal S1x2048 .f32) (ix2 0 n) = (m ((c : Thread nD τ).loc main_arg7) : (⟨S2048, .f32⟩ : BufTy).Contents (Elt Ideal)) (ix1 n) := by
  refine Eq.trans ?_ (gf_at m c n)
  refine congrArg (V m c main_v12) (funext fun a => Fin.ext ?_)
  match a with
  | ⟨0, _⟩ => blk_simp [index_8]
  | ⟨1, _⟩ => blk_simp [index_8]

end Cert.Proof.FF

end
-- ==== Proof.FF.Point.lean ====
module

public import proofs.«01_k».proof.Proof.FF.Blocks
public import Idealize.ShloMosaic.Lib.Pipeline.ReadBack

/-! What the body leaves at a grid point: the accumulator, the normalised block, the tail of the gate. -/

@[expose] public section

set_option maxRecDepth 16384

noncomputable section

namespace Cert.Proof.FF

open Cert.Kernel2Ideal Cert.Kernel2Ideal.Gen
open Idealize.ShloMosaic
open Idealize.ShloMosaic.TcCoe

variable (m : (ℓ : Loc nD τ sig) → Buf (Elt Ideal) ℓ)

/-- The gate of a row and a lane of a grid point's block. -/
theorem gate_at (c : Dev nD) (t : Fin cfg0.N) (r l : Fin 512) :
    k0_pay4 (iblk m c 0 t) (iblk m c 3 t) (ix2 r l)
      = proj (m ((c : Thread nD τ).loc main_arg0)) (m ((c : Thread nD τ).loc main_arg2)) (512 * (t.val / 11) + r.val) (512 * (t.val % 11) + l.val) := by
  rw [pay4_at]
  exact Finset.sum_congr rfl fun d _ => congrArg₂ (fun a b : EReal => a * b) (blk_0 m c t r d) (blk_3 m c t d l)
theorem up_at (c : Dev nD) (t : Fin cfg0.N) (r l : Fin 512) :
    k0_pay5 (iblk m c 0 t) (iblk m c 4 t) (ix2 r l)
      = proj (m ((c : Thread nD τ).loc main_arg0)) (m ((c : Thread nD τ).loc main_arg3)) (512 * (t.val / 11) + r.val) (512 * (t.val % 11) + l.val) := by
  rw [pay5_at]
  exact Finset.sum_congr rfl fun d _ => congrArg₂ (fun a b : EReal => a * b) (blk_0 m c t r d) (blk_4 m c t d l)
/-- The gate of the 16 rows before the block, 0 at the first block. -/
theorem halo_at (c : Dev nD) (t : Fin cfg0.N) (r : Fin 16) (l : Fin 512) :
    k0_pay9 (grid0.coords t) (iblk m c 1 t) (iblk m c 3 t) (ix2 r l)
      = if t.val / 11 = 0 then 0 else
        proj (m ((c : Thread nD τ).loc main_arg0)) (m ((c : Thread nD τ).loc main_arg2)) (512 * (t.val / 11) - 16 + r.val) (512 * (t.val % 11) + l.val) := by
  rw [pay9_at, coords0]
  by_cases h : t.val / 11 = 0
  · rw [if_pos h, if_pos h]
  · rw [if_neg h, if_neg h]
    exact Finset.sum_congr rfl fun d _ => congrArg₂ (fun a b : EReal => a * b) (blk_1 m c t r d h) (blk_3 m c t d l)

/-- The part of a column block in the feed-forward value. -/
def blockPart (c : Dev nD) (i f : ℕ) (j : S512x2048.Idx) : EReal :=
  ∑ l : Fin 512, part (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (512 * i + (j 0).val) (j 1) (512 * f + l.val)

/-- What a grid point adds to the accumulator `v`. -/
theorem step_at (c : Dev nD) (t : Fin cfg0.N) (v : Vec Ideal S512x2048 .f32) (j : S512x2048.Idx) :
    k0_pay12 (k0_pay4 (iblk m c 0 t) (iblk m c 3 t)) (k0_pay5 (iblk m c 0 t) (iblk m c 4 t))
      (k0_pay6 (iblk m c 0 t) (iblk m c 3 t)) (k0_pay7 (iblk m c 0 t) (iblk m c 3 t))
      (k0_pay9 (grid0.coords t) (iblk m c 1 t) (iblk m c 3 t)) (iota Kind.tc S8x512 32 [0] iota_S8x512_d0_w32)
      (k0_pay10 (grid0.coords t) (iblk m c 0 t) (iblk m c 3 t) (iblk m c 1 t) (iblk m c 3 t)) k0_pay11 (iblk m c 6 t)
      (iblk m c 7 t) v (iblk m c 5 t) j = (v j : EReal) + blockPart m c (t.val / 11) (t.val % 11) j := by
  obtain ⟨r, n, hy⟩ : ∃ (r : Fin 512) (n : Fin 2048), j = ix2 r n := ⟨j 0, j 1, eq_ix2 j⟩
  subst hy
  rw [pay12_at (r := r) (n := n)
    (G2 := fun l => back (fun q => proj (m ((c : Thread nD τ).loc main_arg0)) (m ((c : Thread nD τ).loc main_arg2)) q (512 * (t.val % 11) + l.val)) 2 (512 * (t.val / 11) + r.val))
    (G1 := fun l => back (fun q => proj (m ((c : Thread nD τ).loc main_arg0)) (m ((c : Thread nD τ).loc main_arg2)) q (512 * (t.val % 11) + l.val)) 1 (512 * (t.val / 11) + r.val))]
  · refine congrArg ((v (ix2 r n) : EReal) + ·) (Finset.sum_congr rfl fun l _ => ?_)
    rw [gate_at, up_at, blk_5, blk_6, blk_6, blk_6, blk_7]
    rfl
  · intro l
    rw [← back_two _ (t.val / 11) (fun r => k0_pay4 (iblk m c 0 t) (iblk m c 3 t) (ix2 r l)) (fun r => k0_pay9 (grid0.coords t) (iblk m c 1 t) (iblk m c 3 t) (ix2 r l))
      (fun r => gate_at m c t r l) (fun r => halo_at m c t r l) r]
    simp only [pay7_at]
  · intro l
    rw [← back_one _ (t.val / 11) (fun r => k0_pay4 (iblk m c 0 t) (iblk m c 3 t) (ix2 r l)) (fun r => k0_pay9 (grid0.coords t) (iblk m c 1 t) (iblk m c 3 t) (ix2 r l))
      (fun r => gate_at m c t r l) (fun r => halo_at m c t r l) r]
    simp only [pay10_at, pay6_at]

theorem acc_A (c : Dev nD) (t : Fin cfg0.N) (h0 : t.val % 11 = 0) (j : S512x2048.Idx) :
    (outsAt0 m c t.val t.isLt).2.2 j = (0 : EReal) + blockPart m c (t.val / 11) (t.val % 11) j := by
  rw [outsAt0_A m c t h0 (by omega)]
  frame_out
  rw [step_at]
  refine congrArg (· + _) ?_
  pointwise [k0_pay2]

theorem acc_B (c : Dev nD) (t : Fin cfg0.N) (h0 : ¬ t.val % 11 = 0) (j : S512x2048.Idx) :
    (outsAt0 m c t.val t.isLt).2.2 j
      = ((outsAt0 m c (t.val - 1) (Nat.lt_of_le_of_lt (Nat.sub_le _ _) t.isLt)).2.2 j : EReal) + blockPart m c (t.val / 11) (t.val % 11) j := by
  by_cases h1 : t.val % 11 = 10
  · rw [outsAt0_C m c t h0 h1]
    frame_out
    simp only [read_unread_whole]
    rw [step_at]
  · rw [outsAt0_B m c t h0 h1]
    frame_out
    simp only [read_unread_whole]
    rw [step_at]

/-- The accumulator after a grid point: the parts of the column blocks so far. -/
theorem acc_at (c : Dev nD) (t : Fin cfg0.N) (j : S512x2048.Idx) :
    (outsAt0 m c t.val t.isLt).2.2 j = (0 : EReal) + ∑ k ∈ Finset.range (t.val % 11 + 1), blockPart m c (t.val / 11) k j :=
  Pipeline.eq_sum_of_reset_step_apply_divmod (M := EReal) (fun n h => (outsAt0 m c n h).2.2) 11 (fun _ => 0) (blockPart m c)
    (fun t h j => acc_A m c t h j) (fun t h j => acc_B m c t h j) t j

/-- The block written at the last column block of a row block. -/
theorem out_at (c : Dev nD) (t : Fin cfg0.N) (h1 : t.val % 11 = 10) (r : Fin 512) (n : Fin 2048) :
    (outsAt0 m c t.val t.isLt).1 (ix2 r n)
      = val (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (512 * (t.val / 11) + r.val) n := by
  have e : (outsAt0 m c t.val t.isLt).1 = k0_pay1 (iblk m c 2 t) (outsAt0 m c t.val t.isLt).2.2 (iblk m c 8 t) := by
    rw [outsAt0_C m c t (by omega) h1]
    frame_out
  rw [e, pay1_at]
  unfold val
  refine congrArg₂ (fun y g => rms y g n) (funext fun k => ?_) (funext fun k => blk_8 m c t k)
  rw [acc_at, blk_2, h1, zero_add]
  unfold res
  rw [← sum_blocks _ (part_of_le _ _ _ _ _ _ _ _)]
  rfl

/-- The tail of the gate, written at every grid point. -/
theorem tail_at (c : Dev nD) (t : Fin cfg0.N) (r : Fin 8) (l : Fin 512) :
    (outsAt0 m c t.val t.isLt).2.1 (ix2 r l)
      = proj (m ((c : Thread nD τ).loc main_arg0)) (m ((c : Thread nD τ).loc main_arg2)) (512 * (t.val / 11) + (504 + r.val)) (512 * (t.val % 11) + l.val) := by
  have e : (outsAt0 m c t.val t.isLt).2.1 = k0_pay8 (iblk m c 0 t) (iblk m c 3 t) := by
    by_cases h0 : t.val % 11 = 0
    · rw [outsAt0_A m c t h0 (by omega)]
      frame_out
    · by_cases h1 : t.val % 11 = 10
      · rw [outsAt0_C m c t h0 h1]
        frame_out
      · rw [outsAt0_B m c t h0 h1]
        frame_out
  rw [e, pay8_at, gate_at]

end Cert.Proof.FF

end
-- ==== Proof.FF.Ref.lean ====
module

public import proofs.«01_k».proof.Proof.FF.Spec
public import proofs.«01_k».proof.Proof.Gen.Reference2Ideal.Read
public import Idealize.ShloMosaic.Lib.Pointwise

/-! The reference, read in extended reals. -/

@[expose] public section

set_option maxRecDepth 16384

noncomputable section

namespace Cert.Proof.FF

open Cert.Reference2Ideal Cert.Reference2Ideal.Gen Cert.Reference2Ideal.Read
open Idealize.ShloMosaic

variable (x0 x1 : (⟨S1x8192x2048, .f32⟩ : BufTy).Contents (Elt Ideal)) (x2 x3 : (⟨S2048x5504, .f32⟩ : BufTy).Contents (Elt Ideal))
  (x4 : (⟨S3x5504, .f32⟩ : BufTy).Contents (Elt Ideal)) (x5 : (⟨S5504, .f32⟩ : BufTy).Contents (Elt Ideal))
  (x6 : (⟨S5504x2048, .f32⟩ : BufTy).Contents (Elt Ideal)) (x7 : (⟨S2048, .f32⟩ : BufTy).Contents (Elt Ideal))

theorem ref_gate (p : Fin 8192) (j : Fin 5504) : val_main_v1 (F := Ideal) x0 x2 (ix3 0 p j) = proj x0 x2 p.val j.val := by
  rw [val_main_v1_apply]
  unfold proj
  refine Finset.sum_congr rfl fun d _ => ?_
  rw [row, dif_pos p.isLt, col, dif_pos j.isLt]
  exact congrArg₂ (fun a b : EReal => a * b) (congrArg x0 (eq_ix3 (lidx_main_v1 (ix3 0 p j) d))) (congrArg x2 (eq_ix2 (ridx_main_v1 (ix3 0 p j) d)))
theorem ref_up (p : Fin 8192) (j : Fin 5504) : val_main_v2 (F := Ideal) x0 x3 (ix3 0 p j) = proj x0 x3 p.val j.val := by
  rw [val_main_v2_apply]
  unfold proj
  refine Finset.sum_congr rfl fun d _ => ?_
  rw [row, dif_pos p.isLt, col, dif_pos j.isLt]
  exact congrArg₂ (fun a b : EReal => a * b) (congrArg x0 (eq_ix3 (lidx_main_v2 (ix3 0 p j) d))) (congrArg x3 (eq_ix2 (ridx_main_v2 (ix3 0 p j) d)))

/-- The gate behind its two rows of zeros. -/
theorem ref_shift (p : Fin 8194) (j : Fin 5504) :
    val_main_v3 (F := Ideal) x0 x2 (ix3 0 p j) = back (fun q => proj x0 x2 q j.val) 2 p.val := by
  unfold val_main_v3 back
  have hz : ∀ i, val_main_v0 (F := Ideal) i = (0 : EReal) := by
    intro i
    rw [val_main_v0_apply, val_main_cst_apply]
    exact Ideal.ofBits_zero_f32
  have hg := ref_gate x0 x2
  generalize val_main_v0 (F := Ideal) = z at *
  generalize val_main_v1 (F := Ideal) x0 x2 = y at *
  pointwise []
  by_cases h : p.val < 2
  · rw [dif_pos h, if_pos h, hz]
  · rw [dif_neg h, if_neg h]
    exact hg ⟨p.val - 2, by omega⟩ j

theorem one_add_exp_ne (c : EReal) : 1 + Ideal.exp c ≠ 0 := by
  have h : 0 ≤ Ideal.exp c := by
    induction c using EReal.rec with
    | bot => simp
    | top => simp
    | coe r => rw [Ideal.exp_coe]; exact_mod_cast (Real.exp_pos r).le
  have h1 : (0 : EReal) < 1 + Ideal.exp c := lt_of_lt_of_le zero_lt_one (le_add_of_nonneg_right h)
  exact h1.ne'

/-- The gated value with the quotient taken before the product. -/
theorem silu (c u : EReal) : c * Ideal.div 1 (1 + Ideal.exp (-c)) * u = gated c u := by
  unfold gated
  rw [zero_sub, Ideal.div, Ideal.div, if_neg (one_add_exp_ne _), if_neg (one_add_exp_ne _), one_mul]

theorem ref_hid (p : Fin 8192) (j : Fin 5504) : val_main_v28 (F := Ideal) x0 x2 x3 x4 x5 (ix3 0 p j) = hid x0 x2 x3 x4 x5 p.val j.val := by
  have hg := ref_shift x0 x2
  have hu := ref_up x0 x3
  unfold val_main_v28 val_main_v27 val_main_call0_v5 val_main_call0_v4 val_main_call0_v3 val_main_call0_v2 val_main_call0_v1 val_main_call0_v0
    val_main_call0_cst val_main_call0_cst_0 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7 val_main_v6 val_main_v5 val_main_v4
  generalize val_main_v3 (F := Ideal) x0 x2 = y at *
  generalize val_main_v2 (F := Ideal) x0 x3 = u at *
  pointwise []
  rw [hg, hg, hg, hu, silu]
  unfold hid conv back
  have e1 : (if 1 + p.val < 2 then (0 : EReal) else proj x0 x2 (1 + p.val - 2) j.val) = if p.val < 1 then 0 else proj x0 x2 (p.val - 1) j.val := by
    by_cases h : p.val < 1
    · rw [if_pos (by omega), if_pos h]
    · rw [if_neg (by omega), if_neg h]
      exact congrArg (fun q => proj x0 x2 q j.val) (by omega)
  have e0 : (if 2 + p.val < 2 then (0 : EReal) else proj x0 x2 (2 + p.val - 2) j.val) = proj x0 x2 p.val j.val := by
    rw [if_neg (by omega)]
    exact congrArg (fun q => proj x0 x2 q j.val) (by omega)
  rw [bias, tap, tap, tap, dif_pos j.isLt, dif_pos j.isLt, dif_pos j.isLt, dif_pos j.isLt]
  simp only [e1, e0]

theorem ref_res (p : Fin 8192) (n : Fin 2048) : val_main_v31 (F := Ideal) x0 x1 x2 x3 x4 x5 x6 (ix3 0 p n) = res x0 x1 x2 x3 x4 x5 x6 p.val n := by
  rw [val_main_v31_apply, val_main_v29_apply]
  unfold res
  rw [row, dif_pos p.isLt, ← Fin.sum_univ_eq_sum_range (fun j => part x0 x2 x3 x4 x5 x6 p.val n j) 5504]
  refine congrArg ((x1 (ix3 0 p n) : EReal) + ·) (Finset.sum_congr rfl fun j _ => ?_)
  unfold part
  rw [← ref_hid x0 x2 x3 x4 x5 p j, down, dif_pos j.isLt]
  exact congrArg₂ (fun a b : EReal => a * b) (congrArg _ (eq_ix3 (lidx_main_v29 (ix3 0 p n) j))) (congrArg x6 (eq_ix2 (ridx_main_v29 (ix3 0 p n) j)))

theorem ref_out (p : Fin 8192) (n : Fin 2048) : val_main_v45 (F := Ideal) x0 x1 x2 x3 x4 x5 x6 x7 (ix2 p n) = val x0 x1 x2 x3 x4 x5 x6 x7 p.val n := by
  have hr := ref_res x0 x1 x2 x3 x4 x5 x6
  unfold val_main_v45 val_main_v44 val_main_v43 val_main_v42 val_main_v41 val_main_v40 val_main_v39 val_main_v38 val_main_v37 val_main_v36 val_main_v35 val_main_v34 val_main_v33 val_main_v32
    val_main_cst_0 val_main_cst_1 val_main_cst_2
  generalize val_main_v31 (F := Ideal) x0 x1 x2 x3 x4 x5 x6 = y at *
  pointwise []
  simp only [hr]
  rfl

theorem ref_tail (r : Fin 2) (j : Fin 5504) : val_main_v46 (F := Ideal) x0 x2 (ix2 r j) = proj x0 x2 (8190 + r.val) j.val := by
  have hg := ref_shift x0 x2
  unfold val_main_v46 val_main_v30
  generalize val_main_v3 (F := Ideal) x0 x2 = y at *
  pointwise []
  rw [hg, back, if_neg (by show ¬ 8192 + r.val < 2; omega)]
  exact congrArg (fun q => proj x0 x2 q j.val) (by show 8192 + r.val - 2 = _; omega)

end Cert.Proof.FF

end
-- ==== Proof.FF.Value.lean ====
/-
  The feed-forward call's results in extended reals, and the equality with the reference.
-/
module

public import proofs.«01_k».proof.Defs
public import proofs.«01_k».proof.Proof.FF.Point
public import proofs.«01_k».proof.Proof.FF.Ref
public import Idealize.ShloMosaic.Lib.Claim

@[expose] public section

set_option maxRecDepth 16384

noncomputable section

namespace Cert.Proof.FF

open Cert.Kernel2Ideal Cert.Kernel2Ideal.Gen
open Idealize.ShloMosaic Idealize.SL.Sem
open Idealize.ShloMosaic.TcCoe
open Idealize.ShloMosaic.Pipeline (Dat Cfg Window)

variable (m : (ℓ : Loc nD τ sig) → Buf (Elt Ideal) ℓ)

/-- The result array is the reference's. -/
theorem final_y (c : Dev nD) : (dats m 0 c).arrAt 9 cfg0.N = Reference2Ideal.Read.val_main_v45 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  have ht := lt_N t
  have h1 := (flush0_9 t).mp hf
  obtain ⟨r, n, hy⟩ : ∃ (r : Fin 512) (n : Fin 2048), y = ix2 r n := ⟨y 0, y 1, eq_ix2 y⟩
  subst hy
  refine (out_at m c t h1 r n).trans ((ref_out _ _ _ _ _ _ _ _ ⟨512 * (t.val / 11) + r.val, by omega⟩ n).symm.trans (congrArg _ (funext fun a => Fin.ext ?_)))
  match a with
  | ⟨0, _⟩ => blk_simp [index_9]; show 512 * (t.val / 11) + r.val = _; omega
  | ⟨1, _⟩ => blk_simp [index_9]

/-- The tails of the gate's row blocks. -/
theorem final_g (c : Dev nD) : (dats m 0 c).arrAt 10 cfg0.N = fun j : S128x5632.Idx =>
    proj (m ((c : Thread nD τ).loc main_arg0)) (m ((c : Thread nD τ).loc main_arg2)) (512 * ((j 0).val / 8) + (504 + (j 0).val % 8)) (j 1).val := by
  refine (dats m 0 c).arrAt_eq_of_covers 10 _ (by decide +kernel) fun t hf y => ?_
  blk_simp
  rw [after0_10]
  obtain ⟨r, l, hy⟩ : ∃ (r : Fin 8) (l : Fin 512), y = ix2 r l := ⟨y 0, y 1, eq_ix2 y⟩
  subst hy
  refine (tail_at m c t r l).trans (congrArg₂ (fun p j => proj (m ((c : Thread nD τ).loc main_arg0)) (m ((c : Thread nD τ).loc main_arg2)) p j) ?_ ?_)
  · have e : win0_10.index t 0 * 8 + r.val = 8 * (t.val / 11) + r.val := by
      rw [index_10]; show t.val / 11 * 8 + r.val = _; omega
    have e' : 512 * ((8 * (t.val / 11) + r.val) / 8) + (504 + (8 * (t.val / 11) + r.val) % 8) = 512 * (t.val / 11) + (504 + r.val) := by omega
    exact e'.symm.trans (congrArg (fun n : ℕ => 512 * (n / 8) + (504 + n % 8)) e.symm)
  · symm
    blk_simp [index_10]; omega

/-- The host's last operation: the two last rows of the tails, on the unpadded columns. -/
theorem final_t (c : Dev nD) : Pipeline.afterTail₀ cfgs (dats m) 0 (V0 m) [hostOps1] c main_v14
    = extractStridedSlice S2x5504 ![126, 0] ((dats m 0 c).arrAt 10 cfg0.N : (⟨S128x5632, .f32⟩ : BufTy).Contents (Elt Ideal)) slices_S128x5632_S2x5504_126_0 := by
  unfold Pipeline.afterTail₀
  simp only [hostOps1, List.flatten_cons, List.flatten_nil, List.append_nil, List.cons_append, List.nil_append]
  after_results_simp
  exact congrArg (fun g => extractStridedSlice S2x5504 ![126, 0] g slices_S128x5632_S2x5504_126_0)
    ((dats m 0 c).withArrays_arrAt sharedIn0 (V0 m c) (A_eq m c) 10)

/-- The tails' last two rows are the reference's. -/
theorem final_tail (c : Dev nD) : Pipeline.afterTail₀ cfgs (dats m) 0 (V0 m) [hostOps1] c main_v14
    = Reference2Ideal.Read.val_main_v46 (F := Ideal) (m ((c : Thread nD τ).loc main_arg0)) (m ((c : Thread nD τ).loc main_arg2)) := by
  rw [final_t, final_g]
  funext y
  obtain ⟨r, j, hy⟩ : ∃ (r : Fin 2) (j : Fin 5504), y = ix2 r j := ⟨y 0, y 1, eq_ix2 y⟩
  subst hy
  rw [ref_tail]
  pointwise []
  exact congrArg (fun p => proj (m ((c : Thread nD τ).loc main_arg0)) (m ((c : Thread nD τ).loc main_arg2)) p j.val) (by omega)

/-- Both runs end at the same two results. -/
theorem algebraic : Cert.algebraic_Kernel2Ideal_Reference2Ideal := by
  intro m g m' g' _ hargs
  refine ⟨fun c => (dats m 0 c).arrAt 9 cfg0.N, fun c => Pipeline.afterTail₀ cfgs (dats m) 0 (V0 m) [hostOps1] c main_v14, ?_, ?_⟩
  · run_from run_main m g
    exacts [W_main_arg0 m (dats m) c, W_main_arg1 m (dats m) c, W_main_arg2 m (dats m) c, W_main_arg3 m (dats m) c,
      W_main_arg4 m (dats m) c, W_main_arg5 m (dats m) c, W_main_arg6 m (dats m) c, W_main_arg7 m (dats m) c]
  · refine (θ_run Reference2Ideal.defs _ _).mono (fun r h c => ⟨(h c).1.trans ?_, (h c).2.1.trans ?_, (h c).2.2⟩) (Reference2Ideal.Value.run (F := Ideal) m' g')
    · obtain ⟨h0, h1, h2, h3, h4, h5, h6, h7⟩ := hargs c
      refine Eq.trans ?_ (final_y m c).symm
      rw [Reference2Ideal.Read.val_main_v45_eq, h0, h1, h2, h3, h4, h5, h6, h7]
    · obtain ⟨h0, h1, h2, h3, h4, h5, h6, h7⟩ := hargs c
      refine Eq.trans ?_ (final_tail m c).symm
      rw [Reference2Ideal.Read.val_main_v46_eq, h0, h2]

end Cert.Proof.FF

end
-- ==== Proof.PJ.Frames.lean ====
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run

/-! The query and gate calls' programs run without fault and leave their arguments; the ideal kernel is the kernel. -/

@[expose] public section

set_option maxRecDepth 16384

noncomputable section

namespace Cert.Proof.PJ

open Idealize.ShloMosaic Idealize.SL.Sem

theorem frame_ideal : Cert.quiescent_Kernel3Ideal := fun m g _ => Cert.Kernel3Ideal.Gen.frame m g

theorem frame_reference : Cert.quiescent_Reference3Ideal := fun m g _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m g)

theorem frame_kernel : Cert.quiescent_Kernel3 := fun m g _ => Cert.Kernel3.Gen.frame m g

theorem preserves : Cert.preserves_Kernel3_Kernel3Ideal := trivial

end Cert.Proof.PJ

end
-- ==== Proof.PJ.Ref.lean ====
module

public import proofs.«01_k».proof.Proof.FF.Ref
public import proofs.«01_k».proof.Proof.Gen.Reference3Ideal.Read
public import Idealize.ShloMosaic.Lib.Pointwise

/-! The queries and the gates in extended reals, and the reference read there. -/

@[expose] public section

set_option maxRecDepth 16384

noncomputable section

namespace Cert.Proof.PJ

open Cert.Reference3Ideal Cert.Reference3Ideal.Gen Cert.Reference3Ideal.Read
open Idealize.ShloMosaic

variable (x : (⟨S1x8192x2048, .f32⟩ : BufTy).Contents (Elt Ideal)) (g : (⟨S2048, .f32⟩ : BufTy).Contents (Elt Ideal))
  (w : (⟨S2048x10240, .f32⟩ : BufTy).Contents (Elt Ideal))

/-- The normalised row of token `p`. -/
def hrow (p : Fin 8192) (d : Fin 2048) : EReal := FF.rms (fun k => x (ix3 0 p k)) (fun k => g (ix1 k)) d
/-- Token `p`'s projection on column `j`. -/
def proj (p : Fin 8192) (j : Fin 10240) : EReal := ∑ d : Fin 2048, hrow x g p d * w (ix2 d j)
/-- The scaled query. -/
def query (p : Fin 8192) (j : Fin 1024) : EReal := proj x g w p ⟨j.val, by omega⟩ * Ideal.ofBits .f32 0x3DB504F3#32
/-- The logistic function. -/
def logistic (y : EReal) : EReal := Ideal.div 1 (1 + Ideal.exp (0 - y))
/-- The gate. -/
def gate (p : Fin 8192) (j : Fin 4096) : EReal := logistic (proj x g w p ⟨6144 + j.val, by omega⟩)

theorem ref_h (p : Fin 8192) (d : Fin 2048) : val_main_v12 (F := Ideal) x g (ix3 0 p d) = hrow x g p d := by
  unfold val_main_v12 val_main_v11 val_main_v10 val_main_v9 val_main_v8 val_main_v7 val_main_v6 val_main_v5 val_main_v4 val_main_v3 val_main_v2
    val_main_v1 val_main_v0 val_main_cst val_main_cst_0 val_main_cst_1
  pointwise []
  rfl

theorem ref_proj (p : Fin 8192) (j : Fin 10240) : val_main_v13 (F := Ideal) x g w (ix3 0 p j) = proj x g w p j := by
  rw [val_main_v13_apply]
  unfold proj
  refine Finset.sum_congr rfl fun d _ => ?_
  rw [← ref_h]
  exact congrArg₂ (fun a b : EReal => a * b) (congrArg _ (eq_ix3 (lidx_main_v13 (ix3 0 p j) d))) (congrArg w (eq_ix2 (ridx_main_v13 (ix3 0 p j) d)))

theorem ref_query (p : Fin 8192) (j : Fin 1024) : val_main_v37 (F := Ideal) x g w (ix2 p j) = query x g w p j := by
  have h := ref_proj x g w
  unfold val_main_v37 val_main_v36 val_main_v35 val_main_v34 val_main_cst_6 val_main_v14
  generalize val_main_v13 (F := Ideal) x g w = y at *
  pointwise []
  rw [h]
  rfl

theorem ref_gate (p : Fin 8192) (j : Fin 4096) : val_main_v40 (F := Ideal) x g w (ix2 p j) = gate x g w p j := by
  have h := ref_proj x g w
  unfold val_main_v40 val_main_v39 val_main_v38 val_main_v27 val_main_v26 val_main_v25 val_main_v24 val_main_v23 val_main_v22 val_main_v20
    val_main_v33 val_main_v32 val_main_v31 val_main_v30 val_main_v29 val_main_v28 val_main_v21 val_main_cst_2 val_main_cst_3 val_main_cst_4 val_main_cst_5
  generalize val_main_v13 (F := Ideal) x g w = y at *
  pointwise []
  unfold gate logistic
  rw [zero_sub]
  simp only [h]
  split
  · rfl
  · exact congrArg (fun n => Ideal.div 1 (1 + Ideal.exp (-proj x g w p n))) (Fin.ext (by show 8192 + (j.val - 2048) = 6144 + j.val; omega))

end Cert.Proof.PJ

end
-- ==== Proof.PJ.Pay.lean ====
module

public import proofs.«01_k».proof.Proof.PJ.Ref
public import proofs.«01_k».proof.Proof.Gen.Kernel3Ideal.Skeleton
public import Idealize.ShloMosaic.Lib.KernelVsHost
public import Idealize.ShloMosaic.Lib.Pipeline.ValueKit

/-! The bodies' values, read at a row and a lane. -/

@[expose] public section

set_option maxRecDepth 16384

noncomputable section

namespace Cert.Proof.PJ

open Cert.Kernel3Ideal Cert.Kernel3Ideal.Gen
open Idealize.ShloMosaic
open Idealize.ShloMosaic.TcCoe

theorem norm_at (x : Vec Ideal S512x2048 .f32) (g : Vec Ideal S1x2048 .f32) (r : Fin 512) (d : Fin 2048) :
    k0_pay1 x g (ix2 r d) = FF.rms (fun k => x (ix2 r k)) (fun k => g (ix2 0 k)) d := by
  pointwise [k0_pay1]
  rfl
theorem query_at (x : Vec Ideal S512x2048 .f32) (g : Vec Ideal S1x2048 .f32) (w : Vec Ideal S2048x1024 .bf16) (r : Fin 512) (j : Fin 1024) :
    k0_pay2 x g w (ix2 r j) = (∑ d : Fin 2048, FF.rms (fun k => x (ix2 r k)) (fun k => g (ix2 0 k)) d * (w (ix2 d j) : EReal)) * Ideal.ofBits .f32 0x3DB504F3#32 := by
  have h := norm_at x g
  unfold k0_pay2
  generalize k0_pay1 x g = y at *
  pointwise []
  simp only [h]
theorem gate_at (h : Vec Ideal S512x2048 .bf16) (w : Vec Ideal S2048x2048 .bf16) (r : Fin 512) (j : Fin 2048) :
    k1_pay1 h w (ix2 r j) = logistic (∑ d : Fin 2048, (h (ix2 r d) : EReal) * (w (ix2 d j) : EReal)) := by
  pointwise [k1_pay1]
  rfl

end Cert.Proof.PJ

end
-- ==== Proof.PJ.Run.lean ====
module

public import proofs.«01_k».proof.Proof.Gen.Kernel3Ideal.Frame

/-! The run of the calls with what the two results hold at the end. -/

@[expose] public section

set_option maxRecDepth 16384

noncomputable section

namespace Cert.Proof.PJ

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with what the results hold at the end. -/
theorem run_values : θ_run (defs (F := F)) (onTc (τ := τ) (main (F := F))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v3_0 (by decide)),
       h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Proof.PJ

end
-- ==== Proof.PJ.Value.lean ====
module

public import proofs.«01_k».proof.Defs
public import proofs.«01_k».proof.Proof.PJ.Pay
public import proofs.«01_k».proof.Proof.PJ.Run
public import Idealize.ShloMosaic.Lib.Claim
public import Idealize.ShloMosaic.Lib.Pipeline.ReadBack

/-! The two calls' results in extended reals, and the equality with the reference. -/

@[expose] public section

set_option maxRecDepth 16384

noncomputable section

namespace Cert.Proof.PJ

open Cert.Kernel3Ideal Cert.Kernel3Ideal.Gen
open Idealize.ShloMosaic Idealize.SL.Sem
open Idealize.ShloMosaic.TcCoe
open Idealize.ShloMosaic.Pipeline (Dat Cfg Window)

variable (m : (ℓ : Loc nD τ sig) → Buf (Elt Ideal) ℓ) (ρ : Dev nD → PrngReg)

/-! ## The arrays the first call reads -/

theorem V_x (c : Dev nD) : V1 m ρ c main_v1 = shapeCast S8192x2048 (m ((c : Thread nD τ).loc main_arg0) : (⟨S1x8192x2048, .f32⟩ : BufTy).Contents (Elt Ideal)) shapeCasts_S1x8192x2048_S8192x2048 := by
  show StableHlo.after hostOps0 (W0 m ρ c) _ = _
  simp only [hostOps0]
  after_results_simp <;> rfl
theorem V_w (c : Dev nD) : V1 m ρ c main_v0 = truncf .bf16 (F := Ideal) (φ := .f32) (m ((c : Thread nD τ).loc main_arg2) : (⟨S2048x10240, .f32⟩ : BufTy).Contents (Elt Ideal)) bitsLt_bf16_f32 := by
  show StableHlo.after hostOps0 (W0 m ρ c) _ = _
  simp only [hostOps0]
  after_results_simp <;> rfl
theorem V_g (c : Dev nD) : V1 m ρ c main_v2 = shapeCast S1x2048 (m ((c : Thread nD τ).loc main_arg1) : (⟨S2048, .f32⟩ : BufTy).Contents (Elt Ideal)) shapeCasts_S2048_S1x2048 := by
  show StableHlo.after hostOps0 (W0 m ρ c) _ = _
  simp only [hostOps0]
  after_results_simp <;> rfl

theorem x_at (c : Dev nD) (p : Fin 8192) (d : Fin 2048) : (V1 m ρ c main_v1 : (⟨S8192x2048, .f32⟩ : BufTy).Contents (Elt Ideal)) (ix2 p d) = (m ((c : Thread nD τ).loc main_arg0) : (⟨S1x8192x2048, .f32⟩ : BufTy).Contents (Elt Ideal)) (ix3 0 p d) := by
  rw [V_x]
  refine (shapeCast_apply _ shapeCasts_S1x8192x2048_S8192x2048 _ (ix3 0 p d) ?_)
  rw [Shape.rowMajor_val_three, Shape.rowMajor_val_two]
  show (0 * 8192 + p.val) * 2048 + d.val = p.val * 2048 + d.val
  omega
theorem w_at (c : Dev nD) (d : Fin 2048) (j : Fin 10240) : (V1 m ρ c main_v0 : (⟨S2048x10240, .bf16⟩ : BufTy).Contents (Elt Ideal)) (ix2 d j) = (m ((c : Thread nD τ).loc main_arg2) : (⟨S2048x10240, .f32⟩ : BufTy).Contents (Elt Ideal)) (ix2 d j) :=
  congrFun (V_w m ρ c) (ix2 d j)
theorem g_at (c : Dev nD) (d : Fin 2048) : (V1 m ρ c main_v2 : (⟨S1x2048, .f32⟩ : BufTy).Contents (Elt Ideal)) (ix2 0 d) = (m ((c : Thread nD τ).loc main_arg1) : (⟨S2048, .f32⟩ : BufTy).Contents (Elt Ideal)) (ix1 d) := by
  rw [V_g]
  refine (shapeCast_apply _ shapeCasts_S2048_S1x2048 _ (ix1 d) ?_)
  rw [Shape.rowMajor_val_one, Shape.rowMajor_val_two]
  show d.val = 0 * 2048 + d.val
  omega

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![t.val, 0] := by decide +kernel
theorem index0_4 : ∀ t : Fin cfg0.N, win0_4.index t = ![t.val, 0] := by decide +kernel
theorem index1_0 : ∀ t : Fin cfg1.N, win1_0.index t = ![t.val % 16, 0] := by decide +kernel
theorem index1_1 : ∀ t : Fin cfg1.N, win1_1.index t = ![0, t.val / 16 + 3] := by decide +kernel
theorem index1_2 : ∀ t : Fin cfg1.N, win1_2.index t = ![t.val % 16, t.val / 16] := by decide +kernel
theorem lt0 (t : Fin cfg0.N) : t.val < 16 := t.isLt
theorem lt1 (t : Fin cfg1.N) : t.val < 32 := t.isLt

theorem blk0_0 (c : Dev nD) (t : Fin cfg0.N) (r : Fin 512) (d : Fin 2048) :
    (iblk0 (V1 m ρ) c 0 t : Vec Ideal S512x2048 .f32) (ix2 r d) = (m ((c : Thread nD τ).loc main_arg0) : (⟨S1x8192x2048, .f32⟩ : BufTy).Contents (Elt Ideal)) (ix3 0 ⟨512 * t.val + r.val, by have := lt0 t; omega⟩ d) := by
  refine Eq.trans ?_ (x_at m ρ c ⟨512 * t.val + r.val, by have := lt0 t; omega⟩ d)
  refine congrArg (V1 m ρ c main_v1) (funext fun a => Fin.ext ?_)
  match a with
  | ⟨0, _⟩ => blk_simp [index0_0]; show _ = 512 * t.val + r.val; omega
  | ⟨1, _⟩ => blk_simp [index0_0]
theorem blk0_1 (c : Dev nD) (t : Fin cfg0.N) (d : Fin 2048) (j : Fin 1024) :
    (iblk0 (V1 m ρ) c 1 t : Vec Ideal S2048x1024 .bf16) (ix2 d j) = (m ((c : Thread nD τ).loc main_arg2) : (⟨S2048x10240, .f32⟩ : BufTy).Contents (Elt Ideal)) (ix2 d ⟨j.val, by omega⟩) := by
  refine Eq.trans ?_ (w_at m ρ c d ⟨j.val, by omega⟩)
  refine congrArg (V1 m ρ c main_v0) (funext fun a => Fin.ext ?_)
  match a with
  | ⟨0, _⟩ => blk_simp [index0_1]
  | ⟨1, _⟩ => blk_simp [index0_1]
theorem blk0_2 (c : Dev nD) (t : Fin cfg0.N) (d : Fin 2048) :
    (iblk0 (V1 m ρ) c 2 t : Vec Ideal S1x2048 .f32) (ix2 0 d) = (m ((c : Thread nD τ).loc main_arg1) : (⟨S2048, .f32⟩ : BufTy).Contents (Elt Ideal)) (ix1 d) := by
  refine Eq.trans ?_ (g_at m ρ c d)
  refine congrArg (V1 m ρ c main_v2) (funext fun a => Fin.ext ?_)
  match a with
  | ⟨0, _⟩ => blk_simp [index0_2]
  | ⟨1, _⟩ => blk_simp [index0_2]

/-- A block's rows, normalised. -/
theorem blk_rms (c : Dev nD) (t : Fin cfg0.N) (r : Fin 512) (d : Fin 2048) :
    FF.rms (fun k => (iblk0 (V1 m ρ) c 0 t : Vec Ideal S512x2048 .f32) (ix2 r k)) (fun k => (iblk0 (V1 m ρ) c 2 t : Vec Ideal S1x2048 .f32) (ix2 0 k)) d
      = hrow (m ((c : Thread nD τ).loc main_arg0) : (⟨S1x8192x2048, .f32⟩ : BufTy).Contents (Elt Ideal)) (m ((c : Thread nD τ).loc main_arg1) : (⟨S2048, .f32⟩ : BufTy).Contents (Elt Ideal)) ⟨512 * t.val + r.val, by have := lt0 t; omega⟩ d :=
  congrArg₂ (fun y g => FF.rms y g d) (funext fun k => blk0_0 m ρ c t r k) (funext fun k => blk0_2 m ρ c t k)

/-! ## The first call's outputs -/

theorem final_q (c : Dev nD) : (dat0 (V1 m ρ) c).arrAt 3 cfg0.N = Reference3Ideal.Read.val_main_v37 (F := Ideal) (m ((c : Thread nD τ).loc main_arg0) : (⟨S1x8192x2048, .f32⟩ : BufTy).Contents (Elt Ideal)) (m ((c : Thread nD τ).loc main_arg1) : (⟨S2048, .f32⟩ : BufTy).Contents (Elt Ideal)) (m ((c : Thread nD τ).loc main_arg2) : (⟨S2048x10240, .f32⟩ : BufTy).Contents (Elt Ideal)) := by
  refine (dat0 (V1 m ρ) c).arrAt_eq_of_covers 3 _ (by decide +kernel) fun t hf y => ?_
  blk_simp
  rw [after0_3]
  have ht := lt0 t
  obtain ⟨r, j, hy⟩ : ∃ (r : Fin 512) (j : Fin 1024), y = ix2 r j := ⟨y 0, y 1, eq_ix2 y⟩
  subst hy
  have e : out0_3 (iblk0 (V1 m ρ) c 0 t) (iblk0 (V1 m ρ) c 1 t) (iblk0 (V1 m ρ) c 2 t) = k0_pay2 (iblk0 (V1 m ρ) c 0 t) (iblk0 (V1 m ρ) c 2 t) (iblk0 (V1 m ρ) c 1 t) := by
    frame_out
  rw [e]
  refine (query_at _ _ _ r j).trans (Eq.trans ?_ ((ref_query (m ((c : Thread nD τ).loc main_arg0) : (⟨S1x8192x2048, .f32⟩ : BufTy).Contents (Elt Ideal)) (m ((c : Thread nD τ).loc main_arg1) : (⟨S2048, .f32⟩ : BufTy).Contents (Elt Ideal)) (m ((c : Thread nD τ).loc main_arg2) : (⟨S2048x10240, .f32⟩ : BufTy).Contents (Elt Ideal)) ⟨512 * t.val + r.val, by omega⟩ j).symm.trans (congrArg _ (funext fun a => Fin.ext ?_))))
  · unfold query proj
    refine congrArg (fun s : EReal => s * Ideal.ofBits .f32 0x3DB504F3#32) (Finset.sum_congr rfl fun d _ => ?_)
    rw [blk_rms, blk0_1]
  · match a with
    | ⟨0, _⟩ => blk_simp [index0_3]; show 512 * t.val + r.val = _; omega
    | ⟨1, _⟩ => blk_simp [index0_3]

theorem final_h (c : Dev nD) : (dat0 (V1 m ρ) c).arrAt 4 cfg0.N = fun i : S8192x2048.Idx => hrow (m ((c : Thread nD τ).loc main_arg0) : (⟨S1x8192x2048, .f32⟩ : BufTy).Contents (Elt Ideal)) (m ((c : Thread nD τ).loc main_arg1) : (⟨S2048, .f32⟩ : BufTy).Contents (Elt Ideal)) (i 0) (i 1) := by
  refine (dat0 (V1 m ρ) c).arrAt_eq_of_covers 4 _ (by decide +kernel) fun t hf y => ?_
  blk_simp
  rw [after0_4]
  have ht := lt0 t
  obtain ⟨r, d, hy⟩ : ∃ (r : Fin 512) (d : Fin 2048), y = ix2 r d := ⟨y 0, y 1, eq_ix2 y⟩
  subst hy
  have e : out0_4 (iblk0 (V1 m ρ) c 0 t) (iblk0 (V1 m ρ) c 1 t) (iblk0 (V1 m ρ) c 2 t) = k0_pay1 (iblk0 (V1 m ρ) c 0 t) (iblk0 (V1 m ρ) c 2 t) := by
    frame_out
  rw [e]
  refine (norm_at _ _ r d).trans ((blk_rms m ρ c t r d).trans (congrArg₂ (fun p d => hrow (m ((c : Thread nD τ).loc main_arg0) : (⟨S1x8192x2048, .f32⟩ : BufTy).Contents (Elt Ideal)) (m ((c : Thread nD τ).loc main_arg1) : (⟨S2048, .f32⟩ : BufTy).Contents (Elt Ideal)) p d) (Fin.ext ?_) (Fin.ext ?_)))
  · symm
    blk_simp [index0_4]; show t.val * 512 + r.val = 512 * t.val + r.val; omega
  · symm
    blk_simp [index0_4]

/-! ## The second call -/

theorem h_at (c : Dev nD) (p : Fin 8192) (d : Fin 2048) : (V2 m ρ c main_v3_1 : (⟨S8192x2048, .bf16⟩ : BufTy).Contents (Elt Ideal)) (ix2 p d) = hrow (m ((c : Thread nD τ).loc main_arg0) : (⟨S1x8192x2048, .f32⟩ : BufTy).Contents (Elt Ideal)) (m ((c : Thread nD τ).loc main_arg1) : (⟨S2048, .f32⟩ : BufTy).Contents (Elt Ideal)) p d :=
  congrFun ((W2_arr m ρ c 4).trans (final_h m ρ c)) (ix2 p d)
theorem w2_at (c : Dev nD) (d : Fin 2048) (j : Fin 10240) : (V2 m ρ c main_v0 : (⟨S2048x10240, .bf16⟩ : BufTy).Contents (Elt Ideal)) (ix2 d j) = (m ((c : Thread nD τ).loc main_arg2) : (⟨S2048x10240, .f32⟩ : BufTy).Contents (Elt Ideal)) (ix2 d j) :=
  (congrFun (W2_of m ρ c main_v0 (by decide +kernel)) (ix2 d j)).trans (w_at m ρ c d j)

theorem blk1_0 (c : Dev nD) (t : Fin cfg1.N) (r : Fin 512) (d : Fin 2048) :
    (iblk1 (V2 m ρ) c 0 t : Vec Ideal S512x2048 .bf16) (ix2 r d) = hrow (m ((c : Thread nD τ).loc main_arg0) : (⟨S1x8192x2048, .f32⟩ : BufTy).Contents (Elt Ideal)) (m ((c : Thread nD τ).loc main_arg1) : (⟨S2048, .f32⟩ : BufTy).Contents (Elt Ideal)) ⟨512 * (t.val % 16) + r.val, by omega⟩ d := by
  refine Eq.trans ?_ (h_at m ρ c ⟨512 * (t.val % 16) + r.val, by omega⟩ d)
  refine congrArg (V2 m ρ c main_v3_1) (funext fun a => Fin.ext ?_)
  match a with
  | ⟨0, _⟩ => blk_simp [index1_0]; show _ = 512 * (t.val % 16) + r.val; omega
  | ⟨1, _⟩ => blk_simp [index1_0]
theorem blk1_1 (c : Dev nD) (t : Fin cfg1.N) (d j : Fin 2048) :
    (iblk1 (V2 m ρ) c 1 t : Vec Ideal S2048x2048 .bf16) (ix2 d j) = (m ((c : Thread nD τ).loc main_arg2) : (⟨S2048x10240, .f32⟩ : BufTy).Contents (Elt Ideal)) (ix2 d ⟨6144 + (2048 * (t.val / 16) + j.val), by have := lt1 t; omega⟩) := by
  have ht := lt1 t
  refine Eq.trans ?_ (w2_at m ρ c d ⟨6144 + (2048 * (t.val / 16) + j.val), by omega⟩)
  refine congrArg (V2 m ρ c main_v0) (funext fun a => Fin.ext ?_)
  match a with
  | ⟨0, _⟩ => blk_simp [index1_1]
  | ⟨1, _⟩ => blk_simp [index1_1]; show _ = 6144 + (2048 * (t.val / 16) + j.val); omega

theorem final_gate (c : Dev nD) : (dat1 (V2 m ρ) c).arrAt 2 cfg1.N = Reference3Ideal.Read.val_main_v40 (F := Ideal) (m ((c : Thread nD τ).loc main_arg0) : (⟨S1x8192x2048, .f32⟩ : BufTy).Contents (Elt Ideal)) (m ((c : Thread nD τ).loc main_arg1) : (⟨S2048, .f32⟩ : BufTy).Contents (Elt Ideal)) (m ((c : Thread nD τ).loc main_arg2) : (⟨S2048x10240, .f32⟩ : BufTy).Contents (Elt Ideal)) := by
  refine (dat1 (V2 m ρ) c).arrAt_eq_of_covers 2 _ (by decide +kernel) fun t hf y => ?_
  blk_simp
  rw [after1_2]
  have ht := lt1 t
  obtain ⟨r, j, hy⟩ : ∃ (r : Fin 512) (j : Fin 2048), y = ix2 r j := ⟨y 0, y 1, eq_ix2 y⟩
  subst hy
  have e : out1_2 (iblk1 (V2 m ρ) c 0 t) (iblk1 (V2 m ρ) c 1 t) = k1_pay1 (iblk1 (V2 m ρ) c 0 t) (iblk1 (V2 m ρ) c 1 t) := by
    frame_out
  rw [e]
  refine (gate_at _ _ r j).trans (Eq.trans ?_ ((ref_gate (m ((c : Thread nD τ).loc main_arg0) : (⟨S1x8192x2048, .f32⟩ : BufTy).Contents (Elt Ideal)) (m ((c : Thread nD τ).loc main_arg1) : (⟨S2048, .f32⟩ : BufTy).Contents (Elt Ideal)) (m ((c : Thread nD τ).loc main_arg2) : (⟨S2048x10240, .f32⟩ : BufTy).Contents (Elt Ideal)) ⟨512 * (t.val % 16) + r.val, by omega⟩ ⟨2048 * (t.val / 16) + j.val, by omega⟩).symm.trans (congrArg _ (funext fun a => Fin.ext ?_))))
  · unfold gate proj
    refine congrArg logistic (Finset.sum_congr rfl fun d _ => ?_)
    rw [blk1_0, blk1_1]
  · match a with
    | ⟨0, _⟩ => blk_simp [index1_2]; show 512 * (t.val % 16) + r.val = _; omega
    | ⟨1, _⟩ => blk_simp [index1_2]; show 2048 * (t.val / 16) + j.val = _; omega

/-- Both runs end at the same two results. -/
theorem algebraic : Cert.algebraic_Kernel3Ideal_Reference3Ideal := by
  intro m g m' g' _ hargs
  refine ⟨fun c => Reference3Ideal.Read.val_main_v37 (F := Ideal) (m ((c : Thread nD τ).loc main_arg0) : (⟨S1x8192x2048, .f32⟩ : BufTy).Contents (Elt Ideal)) (m ((c : Thread nD τ).loc main_arg1) : (⟨S2048, .f32⟩ : BufTy).Contents (Elt Ideal)) (m ((c : Thread nD τ).loc main_arg2) : (⟨S2048x10240, .f32⟩ : BufTy).Contents (Elt Ideal)), fun c => Reference3Ideal.Read.val_main_v40 (F := Ideal) (m ((c : Thread nD τ).loc main_arg0) : (⟨S1x8192x2048, .f32⟩ : BufTy).Contents (Elt Ideal)) (m ((c : Thread nD τ).loc main_arg1) : (⟨S2048, .f32⟩ : BufTy).Contents (Elt Ideal)) (m ((c : Thread nD τ).loc main_arg2) : (⟨S2048x10240, .f32⟩ : BufTy).Contents (Elt Ideal)), ?_, ?_⟩
  · refine (θ_run defs _ _).mono (fun r h c => ⟨(h c).1.trans ?_, (h c).2.1.trans ?_, (h c).2.2⟩) (run_values m g)
    · exact (W3_of m g c main_v3_0 (by decide +kernel)).trans ((W2_arr m g c 3).trans (final_q m g c))
    · exact (W3_arr m g c 2).trans (final_gate m g c)
  · refine (θ_run Reference3Ideal.defs _ _).mono (fun r h c => ⟨(h c).1.trans ?_, (h c).2.1.trans ?_, (h c).2.2⟩) (Reference3Ideal.Value.run (F := Ideal) m' g')
    · obtain ⟨h0, h1, h2⟩ := hargs c
      rw [Reference3Ideal.Read.val_main_v37_eq, h0, h1, h2]
    · obtain ⟨h0, h1, h2⟩ := hargs c
      rw [Reference3Ideal.Read.val_main_v40_eq, h0, h1, h2]

end Cert.Proof.PJ

end
-- ==== Proof.MG.Frames.lean ====
module

public import proofs.«01_k».proof.Defs
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run

/-! The merge's programs run without fault and leave their arguments; the ideal kernel is the kernel. -/

@[expose] public section

set_option maxRecDepth 16384

noncomputable section

namespace Cert.Proof.MG

open Idealize.ShloMosaic Idealize.SL.Sem

theorem frame_ideal : Cert.quiescent_Kernel5Ideal := fun m g _ => Cert.Kernel5Ideal.Gen.frame m g

theorem frame_reference : Cert.quiescent_Reference5Ideal := fun m g _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m g)

theorem frame_kernel : Cert.quiescent_Kernel5 := fun m g _ => Cert.Kernel5.Gen.frame m g

theorem preserves : Cert.preserves_Kernel5_Kernel5Ideal := trivial

end Cert.Proof.MG

end
-- ==== Proof.MG.Ref.lean ====
module

public import proofs.«01_k».proof.Proof.FF.Ref
public import proofs.«01_k».proof.Proof.Gen.Reference5Ideal.Read
public import Idealize.ShloMosaic.Lib.Pointwise

/-! The merged branches and the query of the memory in extended reals, and the reference read there. -/

@[expose] public section

set_option maxRecDepth 16384

noncomputable section

namespace Cert.Proof.MG

open Cert.Reference5Ideal Cert.Reference5Ideal.Gen Cert.Reference5Ideal.Read
open Idealize.ShloMosaic

variable (a b : (⟨S8192x1024, .f32⟩ : BufTy).Contents (Elt Ideal)) (gt : (⟨S8192x4096, .f32⟩ : BufTy).Contents (Elt Ideal))
  (x : (⟨S8192x2048, .f32⟩ : BufTy).Contents (Elt Ideal)) (wa wb : (⟨S1024x2048, .f32⟩ : BufTy).Contents (Elt Ideal))
  (wo : (⟨S2048x2048, .f32⟩ : BufTy).Contents (Elt Ideal)) (g : (⟨S2048, .f32⟩ : BufTy).Contents (Elt Ideal))
  (wq : (⟨S2048x512, .f32⟩ : BufTy).Contents (Elt Ideal))

/-- Token `p`'s gated branches on column `k`. -/
def mix (p : Fin 8192) (k : Fin 2048) : EReal :=
  gt (ix2 p ⟨k.val, by omega⟩) * (∑ d : Fin 1024, a (ix2 p d) * wa (ix2 d k)) + gt (ix2 p ⟨2048 + k.val, by omega⟩) * (∑ d : Fin 1024, b (ix2 p d) * wb (ix2 d k))
/-- The residual stream after the merge. -/
def stream (p : Fin 8192) (j : Fin 2048) : EReal := x (ix2 p j) + ∑ k : Fin 2048, mix a b gt wa wb p k * wo (ix2 k j)
/-- Its normalised row. -/
def hrow (p : Fin 8192) (d : Fin 2048) : EReal := FF.rms (fun k => stream a b gt x wa wb wo p k) (fun k => g (ix1 k)) d
/-- The scaled query of the memory. -/
def query (p : Fin 8192) (j : Fin 512) : EReal := (∑ d : Fin 2048, hrow a b gt x wa wb wo g p d * wq (ix2 d j)) * Ideal.ofBits .f32 0x3DB504F3#32

theorem ref_mix (p : Fin 8192) (k : Fin 2048) : val_main_v6 (F := Ideal) a b gt wa wb (ix2 p k) = mix a b gt wa wb p k := by
  rw [val_main_v6_apply, val_main_v3_apply, val_main_v5_apply, val_main_v0_apply, val_main_v1_apply, val_main_v2_apply, val_main_v4_apply]
  refine congrArg₂ (fun s t : EReal => s + t) (congrArg₂ (fun s t : EReal => s * t) (congrArg gt (eq_ix2 _)) (Finset.sum_congr rfl fun d _ => ?_))
    (congrArg₂ (fun s t : EReal => s * t) (congrArg gt (eq_ix2 _)) (Finset.sum_congr rfl fun d _ => ?_))
  · exact congrArg₂ (fun s t : EReal => s * t) (congrArg a (eq_ix2 _)) (congrArg wa (eq_ix2 _))
  · exact congrArg₂ (fun s t : EReal => s * t) (congrArg b (eq_ix2 _)) (congrArg wb (eq_ix2 _))

theorem ref_stream (p : Fin 8192) (j : Fin 2048) : val_main_v8 (F := Ideal) a b gt x wa wb wo (ix2 p j) = stream a b gt x wa wb wo p j := by
  rw [val_main_v8_apply, val_main_v7_apply]
  refine congrArg (fun s : EReal => x (ix2 p j) + s) (Finset.sum_congr rfl fun k _ => ?_)
  rw [← ref_mix]
  exact congrArg₂ (fun s t : EReal => s * t) (congrArg _ (eq_ix2 (lidx_main_v7 (ix2 p j) k))) (congrArg wo (eq_ix2 (ridx_main_v7 (ix2 p j) k)))

theorem ref_h (p : Fin 8192) (d : Fin 2048) : val_main_v21 (F := Ideal) a b gt x wa wb wo g (ix2 p d) = hrow a b gt x wa wb wo g p d := by
  have h := ref_stream a b gt x wa wb wo
  unfold val_main_v21 val_main_v20 val_main_v19 val_main_v18 val_main_v17 val_main_v16 val_main_v15 val_main_v14 val_main_v13 val_main_v12 val_main_v11
    val_main_v10 val_main_v9 val_main_cst val_main_cst_0 val_main_cst_1
  unfold hrow
  simp only [← h]
  generalize val_main_v8 (F := Ideal) a b gt x wa wb wo = y at *
  pointwise []
  rfl

theorem ref_query (p : Fin 8192) (j : Fin 512) : val_main_v25 (F := Ideal) a b gt x wa wb wo g wq (ix2 p j) = query a b gt x wa wb wo g wq p j := by
  rw [val_main_v25_apply]
  show val_main_v24 (F := Ideal) a b gt x wa wb wo g wq (ix2 p j) = _
  rw [val_main_v24_apply, val_main_v22_apply, val_main_v23_apply]
  refine congrArg (fun s : EReal => s * Ideal.ofBits .f32 0x3DB504F3#32) (Finset.sum_congr rfl fun d _ => ?_)
  rw [← ref_h]
  exact congrArg₂ (fun s t : EReal => s * t) (congrArg _ (eq_ix2 (lidx_main_v22 (ix2 p j) d))) (congrArg wq (eq_ix2 (ridx_main_v22 (ix2 p j) d)))

end Cert.Proof.MG

end
-- ==== Proof.MG.Pay.lean ====
module

public import proofs.«01_k».proof.Proof.MG.Ref
public import proofs.«01_k».proof.Proof.Gen.Kernel5Ideal.Frame
public import Idealize.ShloMosaic.Lib.KernelVsHost
public import Idealize.ShloMosaic.Lib.Pipeline.ValueKit

/-! The bodies' values, read at a row and a lane. -/

@[expose] public section

set_option maxRecDepth 16384

noncomputable section

namespace Cert.Proof.MG

open Cert.Kernel5Ideal Cert.Kernel5Ideal.Gen
open Idealize.ShloMosaic
open Idealize.ShloMosaic.TcCoe

variable (ga gb : Vec Ideal S256x2048 .bf16) (a b : Vec Ideal S256x1024 .bf16) (wa wb : Vec Ideal S1024x2048 .bf16) (x : Vec Ideal S256x2048 .f32)
  (wo : Vec Ideal S2048x2048 .bf16) (g : Vec Ideal S1x2048 .f32)

theorem stream_at (r : Fin 256) (j : Fin 2048) :
    k0_pay2 ga a wa gb b wb x wo (ix2 r j) = x (ix2 r j) + ∑ k : Fin 2048,
      ((ga (ix2 r k) : EReal) * (∑ d : Fin 1024, (a (ix2 r d) : EReal) * (wa (ix2 d k) : EReal)) + (gb (ix2 r k) : EReal) * (∑ d : Fin 1024, (b (ix2 r d) : EReal) * (wb (ix2 d k) : EReal)))
        * (wo (ix2 k j) : EReal) := by
  pointwise [k0_pay2]
theorem norm_at (r : Fin 256) (d : Fin 2048) :
    k0_pay1 (k0_pay2 ga a wa gb b wb x wo) (k0_pay3 g) (k0_pay4 ga a wa gb b wb x wo) (ix2 r d)
      = FF.rms (fun k => k0_pay2 ga a wa gb b wb x wo (ix2 r k)) (fun k => g (ix2 0 k)) d := by
  unfold k0_pay4
  generalize k0_pay2 ga a wa gb b wb x wo = y
  pointwise [k0_pay1, k0_pay3]
  rfl
theorem query_at (h : Vec Ideal S512x2048 .bf16) (w : Vec Ideal S2048x512 .bf16) (r j : Fin 512) :
    k1_pay1 h w (ix2 r j) = (∑ d : Fin 2048, (h (ix2 r d) : EReal) * (w (ix2 d j) : EReal)) * Ideal.ofBits .f32 0x3DB504F3#32 := by
  pointwise [k1_pay1]

theorem left_9 : out0_9 a b ga gb x wa wb wo g = k0_pay2 ga a wa gb b wb x wo := by
  frame_out
theorem left_10 : out0_10 a b ga gb x wa wb wo g = k0_pay1 (k0_pay2 ga a wa gb b wb x wo) (k0_pay3 g) (k0_pay4 ga a wa gb b wb x wo) := by
  frame_out

end Cert.Proof.MG

end
-- ==== Proof.MG.Run.lean ====
module

public import proofs.«01_k».proof.Proof.Gen.Kernel5Ideal.Frame

/-! The run of the calls with what the two results hold at the end. -/

@[expose] public section

set_option maxRecDepth 16384

noncomputable section

namespace Cert.Proof.MG

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with what the results hold at the end. -/
theorem run_values : θ_run (defs (F := F)) (onTc (τ := τ) (main (F := F))) ⟨m, fun _ => 0, ρ⟩ (fun r => ∀ c : Dev nD,
      r.2.mem ((c.tc : Thread nD τ).loc main_v7_0) = W4 m ρ c (Proc.devRef .tc main_v7_0)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v7_0 (by decide)),
       h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Proof.MG

end
-- ==== Proof.MG.Value.lean ====
module

public import proofs.«01_k».proof.Defs
public import proofs.«01_k».proof.Proof.MG.Pay
public import proofs.«01_k».proof.Proof.MG.Run
public import Idealize.ShloMosaic.Lib.Claim
public import Idealize.ShloMosaic.Lib.Pipeline.ReadBack

/-! The merge's and the query's results in extended reals, and the equality with the reference. -/

@[expose] public section

set_option maxRecDepth 16384

noncomputable section

namespace Cert.Proof.MG

open Cert.Kernel5Ideal Cert.Kernel5Ideal.Gen
open Idealize.ShloMosaic Idealize.SL.Sem
open Idealize.ShloMosaic.TcCoe
open Idealize.ShloMosaic.Pipeline (Dat Cfg Window)

variable (m : (ℓ : Loc nD τ sig) → Buf (Elt Ideal) ℓ) (ρ : Dev nD → PrngReg)

/-! ## The arrays the merge reads -/

theorem V_a (c : Dev nD) : V1 m ρ c main_v0 = truncf .bf16 (F := Ideal) (φ := .f32) (m ((c : Thread nD τ).loc main_arg0) : (⟨S8192x1024, .f32⟩ : BufTy).Contents (Elt Ideal)) bitsLt_bf16_f32 := by
  show StableHlo.after hostOps0 (W0 m ρ c) _ = _
  simp only [hostOps0]
  after_results_simp <;> rfl
theorem V_b (c : Dev nD) : V1 m ρ c main_v1 = truncf .bf16 (F := Ideal) (φ := .f32) (m ((c : Thread nD τ).loc main_arg1) : (⟨S8192x1024, .f32⟩ : BufTy).Contents (Elt Ideal)) bitsLt_bf16_f32 := by
  show StableHlo.after hostOps0 (W0 m ρ c) _ = _
  simp only [hostOps0]
  after_results_simp <;> rfl
theorem V_gt (c : Dev nD) : V1 m ρ c main_v2 = truncf .bf16 (F := Ideal) (φ := .f32) (m ((c : Thread nD τ).loc main_arg2) : (⟨S8192x4096, .f32⟩ : BufTy).Contents (Elt Ideal)) bitsLt_bf16_f32 := by
  show StableHlo.after hostOps0 (W0 m ρ c) _ = _
  simp only [hostOps0]
  after_results_simp <;> rfl
theorem V_wa (c : Dev nD) : V1 m ρ c main_v3 = truncf .bf16 (F := Ideal) (φ := .f32) (m ((c : Thread nD τ).loc main_arg4) : (⟨S1024x2048, .f32⟩ : BufTy).Contents (Elt Ideal)) bitsLt_bf16_f32 := by
  show StableHlo.after hostOps0 (W0 m ρ c) _ = _
  simp only [hostOps0]
  after_results_simp <;> rfl
theorem V_wb (c : Dev nD) : V1 m ρ c main_v4 = truncf .bf16 (F := Ideal) (φ := .f32) (m ((c : Thread nD τ).loc main_arg5) : (⟨S1024x2048, .f32⟩ : BufTy).Contents (Elt Ideal)) bitsLt_bf16_f32 := by
  show StableHlo.after hostOps0 (W0 m ρ c) _ = _
  simp only [hostOps0]
  after_results_simp <;> rfl
theorem V_wo (c : Dev nD) : V1 m ρ c main_v5 = truncf .bf16 (F := Ideal) (φ := .f32) (m ((c : Thread nD τ).loc main_arg6) : (⟨S2048x2048, .f32⟩ : BufTy).Contents (Elt Ideal)) bitsLt_bf16_f32 := by
  show StableHlo.after hostOps0 (W0 m ρ c) _ = _
  simp only [hostOps0]
  after_results_simp <;> rfl
theorem V_x (c : Dev nD) : V1 m ρ c main_arg3 = (m ((c : Thread nD τ).loc main_arg3) : (⟨S8192x2048, .f32⟩ : BufTy).Contents (Elt Ideal)) := W1_args m ρ c main_arg3 (by decide)
theorem V_g (c : Dev nD) : V1 m ρ c main_v6 = shapeCast S1x2048 (m ((c : Thread nD τ).loc main_arg7) : (⟨S2048, .f32⟩ : BufTy).Contents (Elt Ideal)) shapeCasts_S2048_S1x2048 := by
  show StableHlo.after hostOps0 (W0 m ρ c) _ = _
  simp only [hostOps0]
  after_results_simp <;> rfl
theorem g_at (c : Dev nD) (d : Fin 2048) : (V1 m ρ c main_v6 : (⟨S1x2048, .f32⟩ : BufTy).Contents (Elt Ideal)) (ix2 0 d) = (m ((c : Thread nD τ).loc main_arg7) : (⟨S2048, .f32⟩ : BufTy).Contents (Elt Ideal)) (ix1 d) := by
  rw [V_g]
  refine (shapeCast_apply _ shapeCasts_S2048_S1x2048 _ (ix1 d) ?_)
  rw [Shape.rowMajor_val_one, Shape.rowMajor_val_two]
  show d.val = 0 * 2048 + d.val
  omega

theorem index0_0 : ∀ t : Fin cfg0.N, win0_0.index t = ![t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 1] := by decide +kernel
theorem index0_4 : ∀ t : Fin cfg0.N, win0_4.index t = ![t.val, 0] := by decide +kernel
theorem index0_5 : ∀ t : Fin cfg0.N, win0_5.index t = ![0, 0] := by decide +kernel
theorem index0_6 : ∀ t : Fin cfg0.N, win0_6.index t = ![0, 0] := by decide +kernel
theorem index0_7 : ∀ t : Fin cfg0.N, win0_7.index t = ![0, 0] := by decide +kernel
theorem index0_8 : ∀ t : Fin cfg0.N, win0_8.index t = ![0, 0] := by decide +kernel
theorem index0_9 : ∀ t : Fin cfg0.N, win0_9.index t = ![t.val, 0] := by decide +kernel
theorem index0_10 : ∀ t : Fin cfg0.N, win0_10.index t = ![t.val, 0] := by decide +kernel
theorem index1_0 : ∀ t : Fin cfg1.N, win1_0.index t = ![t.val, 0] := by decide +kernel
theorem index1_1 : ∀ t : Fin cfg1.N, win1_1.index t = ![0, 0] := by decide +kernel
theorem index1_2 : ∀ t : Fin cfg1.N, win1_2.index t = ![t.val, 0] := by decide +kernel
theorem lt0 (t : Fin cfg0.N) : t.val < 32 := t.isLt
theorem lt1 (t : Fin cfg1.N) : t.val < 16 := t.isLt

theorem blk0_0 (c : Dev nD) (t : Fin cfg0.N) (r : Fin 256) (d : Fin 1024) :
    (iblk0 (V1 m ρ) c 0 t : Vec Ideal S256x1024 .bf16) (ix2 r d) = (m ((c : Thread nD τ).loc main_arg0) : (⟨S8192x1024, .f32⟩ : BufTy).Contents (Elt Ideal)) (ix2 ⟨256 * t.val + r.val, by have := lt0 t; omega⟩ d) := by
  have ht := lt0 t
  refine Eq.trans ?_ (congrFun (V_a m ρ c) (ix2 ⟨256 * t.val + r.val, by have := lt0 t; omega⟩ d))
  refine congrArg (V1 m ρ c main_v0) (funext fun a => Fin.ext ?_)
  match a with
  | ⟨0, _⟩ => blk_simp [index0_0]; show _ = 256 * t.val + r.val; omega
  | ⟨1, _⟩ => blk_simp [index0_0]
theorem blk0_1 (c : Dev nD) (t : Fin cfg0.N) (r : Fin 256) (d : Fin 1024) :
    (iblk0 (V1 m ρ) c 1 t : Vec Ideal S256x1024 .bf16) (ix2 r d) = (m ((c : Thread nD τ).loc main_arg1) : (⟨S8192x1024, .f32⟩ : BufTy).Contents (Elt Ideal)) (ix2 ⟨256 * t.val + r.val, by have := lt0 t; omega⟩ d) := by
  have ht := lt0 t
  refine Eq.trans ?_ (congrFun (V_b m ρ c) (ix2 ⟨256 * t.val + r.val, by have := lt0 t; omega⟩ d))
  refine congrArg (V1 m ρ c main_v1) (funext fun a => Fin.ext ?_)
  match a with
  | ⟨0, _⟩ => blk_simp [index0_1]; show _ = 256 * t.val + r.val; omega
  | ⟨1, _⟩ => blk_simp [index0_1]
theorem blk0_2 (c : Dev nD) (t : Fin cfg0.N) (r : Fin 256) (d : Fin 2048) :
    (iblk0 (V1 m ρ) c 2 t : Vec Ideal S256x2048 .bf16) (ix2 r d) = (m ((c : Thread nD τ).loc main_arg2) : (⟨S8192x4096, .f32⟩ : BufTy).Contents (Elt Ideal)) (ix2 ⟨256 * t.val + r.val, by have := lt0 t; omega⟩ ⟨d.val, by omega⟩) := by
  have ht := lt0 t
  refine Eq.trans ?_ (congrFun (V_gt m ρ c) (ix2 ⟨256 * t.val + r.val, by have := lt0 t; omega⟩ ⟨d.val, by omega⟩))
  refine congrArg (V1 m ρ c main_v2) (funext fun a => Fin.ext ?_)
  match a with
  | ⟨0, _⟩ => blk_simp [index0_2]; show _ = 256 * t.val + r.val; omega
  | ⟨1, _⟩ => blk_simp [index0_2]
theorem blk0_3 (c : Dev nD) (t : Fin cfg0.N) (r : Fin 256) (d : Fin 2048) :
    (iblk0 (V1 m ρ) c 3 t : Vec Ideal S256x2048 .bf16) (ix2 r d) = (m ((c : Thread nD τ).loc main_arg2) : (⟨S8192x4096, .f32⟩ : BufTy).Contents (Elt Ideal)) (ix2 ⟨256 * t.val + r.val, by have := lt0 t; omega⟩ ⟨2048 + d.val, by omega⟩) := by
  have ht := lt0 t
  refine Eq.trans ?_ (congrFun (V_gt m ρ c) (ix2 ⟨256 * t.val + r.val, by have := lt0 t; omega⟩ ⟨2048 + d.val, by omega⟩))
  refine congrArg (V1 m ρ c main_v2) (funext fun a => Fin.ext ?_)
  match a with
  | ⟨0, _⟩ => blk_simp [index0_3]; show _ = 256 * t.val + r.val; omega
  | ⟨1, _⟩ => blk_simp [index0_3]
theorem blk0_4 (c : Dev nD) (t : Fin cfg0.N) (r : Fin 256) (d : Fin 2048) :
    (iblk0 (V1 m ρ) c 4 t : Vec Ideal S256x2048 .f32) (ix2 r d) = (m ((c : Thread nD τ).loc main_arg3) : (⟨S8192x2048, .f32⟩ : BufTy).Contents (Elt Ideal)) (ix2 ⟨256 * t.val + r.val, by have := lt0 t; omega⟩ d) := by
  have ht := lt0 t
  refine Eq.trans ?_ (congrFun (V_x m ρ c) (ix2 ⟨256 * t.val + r.val, by have := lt0 t; omega⟩ d))
  refine congrArg (V1 m ρ c main_arg3) (funext fun a => Fin.ext ?_)
  match a with
  | ⟨0, _⟩ => blk_simp [index0_4]; show _ = 256 * t.val + r.val; omega
  | ⟨1, _⟩ => blk_simp [index0_4]
theorem blk0_5 (c : Dev nD) (t : Fin cfg0.N) (d : Fin 1024) (k : Fin 2048) :
    (iblk0 (V1 m ρ) c 5 t : Vec Ideal S1024x2048 .bf16) (ix2 d k) = (m ((c : Thread nD τ).loc main_arg4) : (⟨S1024x2048, .f32⟩ : BufTy).Contents (Elt Ideal)) (ix2 d k) := by
  have ht := lt0 t
  refine Eq.trans ?_ (congrFun (V_wa m ρ c) (ix2 d k))
  refine congrArg (V1 m ρ c main_v3) (funext fun a => Fin.ext ?_)
  match a with
  | ⟨0, _⟩ => blk_simp [index0_5]
  | ⟨1, _⟩ => blk_simp [index0_5]
theorem blk0_6 (c : Dev nD) (t : Fin cfg0.N) (d : Fin 1024) (k : Fin 2048) :
    (iblk0 (V1 m ρ) c 6 t : Vec Ideal S1024x2048 .bf16) (ix2 d k) = (m ((c : Thread nD τ).loc main_arg5) : (⟨S1024x2048, .f32⟩ : BufTy).Contents (Elt Ideal)) (ix2 d k) := by
  have ht := lt0 t
  refine Eq.trans ?_ (congrFun (V_wb m ρ c) (ix2 d k))
  refine congrArg (V1 m ρ c main_v4) (funext fun a => Fin.ext ?_)
  match a with
  | ⟨0, _⟩ => blk_simp [index0_6]
  | ⟨1, _⟩ => blk_simp [index0_6]
theorem blk0_7 (c : Dev nD) (t : Fin cfg0.N) (d : Fin 2048) (k : Fin 2048) :
    (iblk0 (V1 m ρ) c 7 t : Vec Ideal S2048x2048 .bf16) (ix2 d k) = (m ((c : Thread nD τ).loc main_arg6) : (⟨S2048x2048, .f32⟩ : BufTy).Contents (Elt Ideal)) (ix2 d k) := by
  have ht := lt0 t
  refine Eq.trans ?_ (congrFun (V_wo m ρ c) (ix2 d k))
  refine congrArg (V1 m ρ c main_v5) (funext fun a => Fin.ext ?_)
  match a with
  | ⟨0, _⟩ => blk_simp [index0_7]
  | ⟨1, _⟩ => blk_simp [index0_7]
theorem blk0_8 (c : Dev nD) (t : Fin cfg0.N) (d : Fin 2048) :
    (iblk0 (V1 m ρ) c 8 t : Vec Ideal S1x2048 .f32) (ix2 0 d) = (m ((c : Thread nD τ).loc main_arg7) : (⟨S2048, .f32⟩ : BufTy).Contents (Elt Ideal)) (ix1 d) := by
  have ht := lt0 t
  refine Eq.trans ?_ (g_at m ρ c d)
  refine congrArg (V1 m ρ c main_v6) (funext fun a => Fin.ext ?_)
  match a with
  | ⟨0, _⟩ => blk_simp [index0_8]
  | ⟨1, _⟩ => blk_simp [index0_8]

/-- A block's stream is the stream of its tokens. -/
theorem blk_stream (c : Dev nD) (t : Fin cfg0.N) (r : Fin 256) (j : Fin 2048) :
    k0_pay2 (iblk0 (V1 m ρ) c 2 t) (iblk0 (V1 m ρ) c 0 t) (iblk0 (V1 m ρ) c 5 t) (iblk0 (V1 m ρ) c 3 t) (iblk0 (V1 m ρ) c 1 t) (iblk0 (V1 m ρ) c 6 t) (iblk0 (V1 m ρ) c 4 t) (iblk0 (V1 m ρ) c 7 t) (ix2 r j) = stream (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) ⟨256 * t.val + r.val, by have := lt0 t; omega⟩ j := by
  rw [stream_at]
  unfold stream mix
  rw [blk0_4]
  refine congrArg₂ (fun s t : EReal => s + t) rfl (Finset.sum_congr rfl fun k _ => ?_)
  rw [blk0_2, blk0_3, blk0_7]
  simp only [blk0_0, blk0_1, blk0_5, blk0_6]

/-! ## The merge's outputs -/

theorem final_x (c : Dev nD) : (dat0 (V1 m ρ) c).arrAt 9 cfg0.N = Reference5Ideal.Read.val_main_v8 (F := Ideal) (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) := by
  refine (dat0 (V1 m ρ) c).arrAt_eq_of_covers 9 _ (by decide +kernel) fun t hf y => ?_
  blk_simp
  rw [after0_9]
  have ht := lt0 t
  obtain ⟨r, j, hy⟩ : ∃ (r : Fin 256) (j : Fin 2048), y = ix2 r j := ⟨y 0, y 1, eq_ix2 y⟩
  subst hy
  rw [left_9]
  refine (blk_stream m ρ c t r j).trans ((ref_stream (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) ⟨256 * t.val + r.val, by have := lt0 t; omega⟩ j).symm.trans (congrArg _ (funext fun a => Fin.ext ?_)))
  match a with
  | ⟨0, _⟩ => blk_simp [index0_9]; show 256 * t.val + r.val = _; omega
  | ⟨1, _⟩ => blk_simp [index0_9]

theorem final_h (c : Dev nD) : (dat0 (V1 m ρ) c).arrAt 10 cfg0.N = fun i : S8192x2048.Idx => hrow (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) (i 0) (i 1) := by
  refine (dat0 (V1 m ρ) c).arrAt_eq_of_covers 10 _ (by decide +kernel) fun t hf y => ?_
  blk_simp
  rw [after0_10]
  have ht := lt0 t
  obtain ⟨r, d, hy⟩ : ∃ (r : Fin 256) (d : Fin 2048), y = ix2 r d := ⟨y 0, y 1, eq_ix2 y⟩
  subst hy
  rw [left_10]
  refine (norm_at _ _ _ _ _ _ _ _ _ r d).trans (Eq.trans (congrArg₂ (fun y g => FF.rms y g d) (funext fun k => blk_stream m ρ c t r k) (funext fun k => blk0_8 m ρ c t k)) ?_)
  refine congrArg₂ (fun p d => hrow (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) p d) (Fin.ext ?_) (Fin.ext ?_)
  · symm
    blk_simp [index0_10]; show t.val * 256 + r.val = 256 * t.val + r.val; omega
  · symm
    blk_simp [index0_10]

/-! ## The query -/

theorem h_at (c : Dev nD) (p : Fin 8192) (d : Fin 2048) : (V3 m ρ c main_v7_1 : (⟨S8192x2048, .bf16⟩ : BufTy).Contents (Elt Ideal)) (ix2 p d) = hrow (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) p d :=
  congrFun ((W3_of m ρ c main_v7_1 (by decide +kernel)).trans ((W2_arr m ρ c 10).trans (final_h m ρ c))) (ix2 p d)
theorem V_wq (c : Dev nD) : V3 m ρ c main_v8 = truncf .bf16 (F := Ideal) (φ := .f32) (m ((c : Thread nD τ).loc main_arg8) : (⟨S2048x512, .f32⟩ : BufTy).Contents (Elt Ideal)) bitsLt_bf16_f32 := by
  have h : W2 m ρ c (Proc.devRef .tc main_arg8) = (m ((c : Thread nD τ).loc main_arg8) : (⟨S2048x512, .f32⟩ : BufTy).Contents (Elt Ideal)) := W2_args m ρ c main_arg8 (by decide)
  show StableHlo.after hostOps1 (W2 m ρ c) _ = _
  simp only [hostOps1]
  after_results_simp
  rw [← h]

theorem blk1_0 (c : Dev nD) (t : Fin cfg1.N) (r : Fin 512) (d : Fin 2048) :
    (iblk1 (V3 m ρ) c 0 t : Vec Ideal S512x2048 .bf16) (ix2 r d) = hrow (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) ⟨512 * t.val + r.val, by have := lt1 t; omega⟩ d := by
  have ht := lt1 t
  refine Eq.trans ?_ (h_at m ρ c ⟨512 * t.val + r.val, by have := lt1 t; omega⟩ d)
  refine congrArg (V3 m ρ c main_v7_1) (funext fun a => Fin.ext ?_)
  match a with
  | ⟨0, _⟩ => blk_simp [index1_0]; show _ = 512 * t.val + r.val; omega
  | ⟨1, _⟩ => blk_simp [index1_0]
theorem blk1_1 (c : Dev nD) (t : Fin cfg1.N) (d : Fin 2048) (k : Fin 512) :
    (iblk1 (V3 m ρ) c 1 t : Vec Ideal S2048x512 .bf16) (ix2 d k) = (m ((c : Thread nD τ).loc main_arg8) : (⟨S2048x512, .f32⟩ : BufTy).Contents (Elt Ideal)) (ix2 d k) := by
  have ht := lt1 t
  refine Eq.trans ?_ (congrFun (V_wq m ρ c) (ix2 d k))
  refine congrArg (V3 m ρ c main_v8) (funext fun a => Fin.ext ?_)
  match a with
  | ⟨0, _⟩ => blk_simp [index1_1]
  | ⟨1, _⟩ => blk_simp [index1_1]

theorem final_q (c : Dev nD) : (dat1 (V3 m ρ) c).arrAt 2 cfg1.N = Reference5Ideal.Read.val_main_v25 (F := Ideal) (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) (m ((c : Thread nD τ).loc main_arg8) : (⟨S2048x512, .f32⟩ : BufTy).Contents (Elt Ideal)) := by
  refine (dat1 (V3 m ρ) c).arrAt_eq_of_covers 2 _ (by decide +kernel) fun t hf y => ?_
  blk_simp
  rw [after1_2]
  have ht := lt1 t
  obtain ⟨r, j, hy⟩ : ∃ (r : Fin 512) (j : Fin 512), y = ix2 r j := ⟨y 0, y 1, eq_ix2 y⟩
  subst hy
  have e : out1_2 (iblk1 (V3 m ρ) c 0 t) (iblk1 (V3 m ρ) c 1 t) = k1_pay1 (iblk1 (V3 m ρ) c 0 t) (iblk1 (V3 m ρ) c 1 t) := by
    frame_out
  rw [e]
  refine (query_at _ _ r j).trans (Eq.trans ?_ ((ref_query (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) (m ((c : Thread nD τ).loc main_arg8) : (⟨S2048x512, .f32⟩ : BufTy).Contents (Elt Ideal)) ⟨512 * t.val + r.val, by have := lt1 t; omega⟩ j).symm.trans (congrArg _ (funext fun a => Fin.ext ?_))))
  · unfold query
    refine congrArg (fun s : EReal => s * Ideal.ofBits .f32 0x3DB504F3#32) (Finset.sum_congr rfl fun d _ => ?_)
    rw [blk1_0, blk1_1]
  · match a with
    | ⟨0, _⟩ => blk_simp [index1_2]; show 512 * t.val + r.val = _; omega
    | ⟨1, _⟩ => blk_simp [index1_2]

/-- Both runs end at the same two results. -/
theorem algebraic : Cert.algebraic_Kernel5Ideal_Reference5Ideal := by
  intro m g m' g' _ hargs
  refine ⟨fun c => Reference5Ideal.Read.val_main_v8 (F := Ideal) (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)), fun c => Reference5Ideal.Read.val_main_v25 (F := Ideal) (m ((c : Thread nD τ).loc main_arg0) : (⟨S8192x1024, .f32⟩ : BufTy).Contents (Elt Ideal)) (m ((c : Thread nD τ).loc main_arg1) : (⟨S8192x1024, .f32⟩ : BufTy).Contents (Elt Ideal)) (m ((c : Thread nD τ).loc main_arg2) : (⟨S8192x4096, .f32⟩ : BufTy).Contents (Elt Ideal)) (m ((c : Thread nD τ).loc main_arg3) : (⟨S8192x2048, .f32⟩ : BufTy).Contents (Elt Ideal)) (m ((c : Thread nD τ).loc main_arg4) : (⟨S1024x2048, .f32⟩ : BufTy).Contents (Elt Ideal)) (m ((c : Thread nD τ).loc main_arg5) : (⟨S1024x2048, .f32⟩ : BufTy).Contents (Elt Ideal)) (m ((c : Thread nD τ).loc main_arg6) : (⟨S2048x2048, .f32⟩ : BufTy).Contents (Elt Ideal)) (m ((c : Thread nD τ).loc main_arg7) : (⟨S2048, .f32⟩ : BufTy).Contents (Elt Ideal)) (m ((c : Thread nD τ).loc main_arg8) : (⟨S2048x512, .f32⟩ : BufTy).Contents (Elt Ideal)), ?_, ?_⟩
  · refine (θ_run defs _ _).mono (fun r h c => ⟨(h c).1.trans ?_, (h c).2.1.trans ?_, (h c).2.2⟩) (run_values m g)
    · exact (W4_of m g c main_v7_0 (by decide +kernel)).trans ((W3_of m g c main_v7_0 (by decide +kernel)).trans ((W2_arr m g c 9).trans (final_x m g c)))
    · exact (W4_arr m g c 2).trans (final_q m g c)
  · refine (θ_run Reference5Ideal.defs _ _).mono (fun r h c => ⟨(h c).1.trans ?_, (h c).2.1.trans ?_, (h c).2.2⟩) (Reference5Ideal.Value.run (F := Ideal) m' g')
    · obtain ⟨h0, h1, h2, h3, h4, h5, h6, h7, h8⟩ := hargs c
      rw [Reference5Ideal.Read.val_main_v8_eq, h0, h1, h2, h3, h4, h5, h6]
    · obtain ⟨h0, h1, h2, h3, h4, h5, h6, h7, h8⟩ := hargs c
      rw [Reference5Ideal.Read.val_main_v25_eq, h0, h1, h2, h3, h4, h5, h6, h7, h8]

end Cert.Proof.MG

end
-- ==== Proof.MM.Frames.lean ====
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run

/-! The memory calls' programs run without fault and leave their arguments; the ideal kernel is the kernel. -/

@[expose] public section

set_option maxRecDepth 16384

noncomputable section

namespace Cert.Proof.MM

open Idealize.ShloMosaic Idealize.SL.Sem

theorem frame_ideal : Cert.quiescent_Kernel4Ideal := fun m g _ => Cert.Kernel4Ideal.Gen.frame m g

theorem frame_reference : Cert.quiescent_Reference4Ideal := fun m g _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m g)

theorem frame_kernel : Cert.quiescent_Kernel4 := fun m g _ => Cert.Kernel4.Gen.frame m g

theorem preserves : Cert.preserves_Kernel4_Kernel4Ideal := trivial

end Cert.Proof.MM

end
-- ==== Proof.MM.Ref.lean ====
module

public import proofs.«01_k».proof.Proof.FF.Ref
public import proofs.«01_k».proof.Proof.Gen.Reference4Ideal.Read
public import Idealize.ShloMosaic.Lib.Pointwise

/-! The keys and values of the memory in extended reals, and the reference read there. -/

@[expose] public section

set_option maxRecDepth 16384

noncomputable section

namespace Cert.Proof.MM

open Cert.Reference4Ideal Cert.Reference4Ideal.Gen Cert.Reference4Ideal.Read
open Idealize.ShloMosaic

variable (x : (⟨S1x256x2048, .f32⟩ : BufTy).Contents (Elt Ideal)) (g : (⟨S2048, .f32⟩ : BufTy).Contents (Elt Ideal))
  (w : (⟨S2048x512, .f32⟩ : BufTy).Contents (Elt Ideal))

/-- The normalised row `p` of the memory. -/
def hrow (p : Fin 256) (d : Fin 2048) : EReal := FF.rms (fun k => x (ix3 0 p k)) (fun k => g (ix1 k)) d
/-- Row `p`'s projection on column `j`. -/
def proj (p : Fin 256) (j : Fin 512) : EReal := ∑ d : Fin 2048, hrow x g p d * w (ix2 d j)

theorem ref_h (p : Fin 256) (d : Fin 2048) : val_main_v12 (F := Ideal) x g (ix3 0 p d) = hrow x g p d := by
  unfold val_main_v12 val_main_v11 val_main_v10 val_main_v9 val_main_v8 val_main_v7 val_main_v6 val_main_v5 val_main_v4 val_main_v3 val_main_v2
    val_main_v1 val_main_v0 val_main_cst val_main_cst_0 val_main_cst_1
  pointwise []
  rfl

theorem ref_k (p : Fin 256) (j : Fin 512) : val_main_v14 (F := Ideal) x g w (ix2 p j) = proj x g w p j := by
  have h : ∀ (p : Fin 256) (j : Fin 512), val_main_v13 (F := Ideal) x g w (ix3 0 p j) = proj x g w p j := by
    intro p j
    rw [val_main_v13_apply]
    unfold proj
    refine Finset.sum_congr rfl fun d _ => ?_
    rw [← ref_h]
    exact congrArg₂ (fun a b : EReal => a * b) (congrArg _ (eq_ix3 (lidx_main_v13 (ix3 0 p j) d))) (congrArg w (eq_ix2 (ridx_main_v13 (ix3 0 p j) d)))
  unfold val_main_v14
  generalize val_main_v13 (F := Ideal) x g w = y at *
  pointwise []
  rw [h]

theorem ref_v (p : Fin 256) (j : Fin 512) : val_main_v16 (F := Ideal) x g w (ix2 p j) = proj x g w p j := by
  have h : ∀ (p : Fin 256) (j : Fin 512), val_main_v15 (F := Ideal) x g w (ix3 0 p j) = proj x g w p j := by
    intro p j
    rw [val_main_v15_apply]
    unfold proj
    refine Finset.sum_congr rfl fun d _ => ?_
    rw [← ref_h]
    exact congrArg₂ (fun a b : EReal => a * b) (congrArg _ (eq_ix3 (lidx_main_v15 (ix3 0 p j) d))) (congrArg w (eq_ix2 (ridx_main_v15 (ix3 0 p j) d)))
  unfold val_main_v16
  generalize val_main_v15 (F := Ideal) x g w = y at *
  pointwise []
  rw [h]

end Cert.Proof.MM

end
-- ==== Proof.MM.Pay.lean ====
module

public import proofs.«01_k».proof.Proof.MM.Ref
public import proofs.«01_k».proof.Proof.Gen.Kernel4Ideal.Skeleton
public import Idealize.ShloMosaic.Lib.KernelVsHost
public import Idealize.ShloMosaic.Lib.Pipeline.ValueKit

/-! The bodies' values, read at a row and a lane. -/

@[expose] public section

set_option maxRecDepth 16384

noncomputable section

namespace Cert.Proof.MM

open Cert.Kernel4Ideal Cert.Kernel4Ideal.Gen
open Idealize.ShloMosaic
open Idealize.ShloMosaic.TcCoe

theorem norm_at (x : Vec Ideal S256x2048 .f32) (g : Vec Ideal S1x2048 .f32) (r : Fin 256) (d : Fin 2048) :
    k0_pay1 x g (ix2 r d) = FF.rms (fun k => x (ix2 r k)) (fun k => g (ix2 0 k)) d := by
  pointwise [k0_pay1]
  rfl
theorem key_at (h : Vec Ideal S256x2048 .bf16) (w : Vec Ideal S2048x512 .bf16) (r : Fin 256) (j : Fin 512) :
    k1_pay1 h w (ix2 r j) = ∑ d : Fin 2048, (h (ix2 r d) : EReal) * (w (ix2 d j) : EReal) := by
  pointwise [k1_pay1]
theorem value_at (h : Vec Ideal S256x2048 .bf16) (w : Vec Ideal S2048x512 .bf16) (r : Fin 256) (j : Fin 512) :
    k2_pay1 h w (ix2 r j) = ∑ d : Fin 2048, (h (ix2 r d) : EReal) * (w (ix2 d j) : EReal) := by
  pointwise [k2_pay1]

end Cert.Proof.MM

end
-- ==== Proof.MM.Run.lean ====
module

public import proofs.«01_k».proof.Proof.Gen.Kernel4Ideal.Frame

/-! The run of the calls with what the two results hold at the end. -/

@[expose] public section

set_option maxRecDepth 16384

noncomputable section

namespace Cert.Proof.MM

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, with what the results hold at the end. -/
theorem run_values : θ_run (defs (F := F)) (onTc (τ := τ) (main (F := F))) ⟨m, fun _ => 0, ρ⟩ (fun r => ∀ c : Dev nD,
      r.2.mem ((c.tc : Thread nD τ).loc main_v4) = W6 m ρ c (Proc.devRef .tc main_v4)
      ∧ r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v4 (by decide)),
       h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.Proof.MM

end
-- ==== Proof.MM.Value.lean ====
module

public import proofs.«01_k».proof.Defs
public import proofs.«01_k».proof.Proof.MM.Pay
public import proofs.«01_k».proof.Proof.MM.Run
public import Idealize.ShloMosaic.Lib.Claim
public import Idealize.ShloMosaic.Lib.Pipeline.ReadBack

/-! The memory's keys and values in extended reals, and the equality with the reference. -/

@[expose] public section

set_option maxRecDepth 16384

noncomputable section

namespace Cert.Proof.MM

open Cert.Kernel4Ideal Cert.Kernel4Ideal.Gen
open Idealize.ShloMosaic Idealize.SL.Sem
open Idealize.ShloMosaic.TcCoe
open Idealize.ShloMosaic.Pipeline (Dat Cfg Window)

variable (m : (ℓ : Loc nD τ sig) → Buf (Elt Ideal) ℓ) (ρ : Dev nD → PrngReg)

theorem V_x (c : Dev nD) : V1 m ρ c main_v0 = shapeCast S256x2048 (m ((c : Thread nD τ).loc main_arg0) : (⟨S1x256x2048, .f32⟩ : BufTy).Contents (Elt Ideal)) shapeCasts_S1x256x2048_S256x2048 := by
  show StableHlo.after hostOps0 (W0 m ρ c) _ = _
  simp only [hostOps0]
  after_results_simp <;> rfl
theorem V_g (c : Dev nD) : V1 m ρ c main_v1 = shapeCast S1x2048 (m ((c : Thread nD τ).loc main_arg1) : (⟨S2048, .f32⟩ : BufTy).Contents (Elt Ideal)) shapeCasts_S2048_S1x2048 := by
  show StableHlo.after hostOps0 (W0 m ρ c) _ = _
  simp only [hostOps0]
  after_results_simp <;> rfl
theorem V_k (c : Dev nD) : V3 m ρ c main_v3 = truncf .bf16 (F := Ideal) (φ := .f32) (m ((c : Thread nD τ).loc main_arg2) : (⟨S2048x512, .f32⟩ : BufTy).Contents (Elt Ideal)) bitsLt_bf16_f32 := by
  have e : W2 m ρ c (Proc.devRef .tc main_arg2) = m ((c : Thread nD τ).loc main_arg2) := W2_args m ρ c main_arg2 (by decide)
  refine Eq.trans ?_ (congrArg (fun w => truncf .bf16 (F := Ideal) (φ := .f32) w bitsLt_bf16_f32) e)
  show StableHlo.after hostOps1 (W2 m ρ c) _ = _
  simp only [hostOps1]
  after_results_simp <;> rfl
theorem V_v (c : Dev nD) : V5 m ρ c main_v5 = truncf .bf16 (F := Ideal) (φ := .f32) (m ((c : Thread nD τ).loc main_arg3) : (⟨S2048x512, .f32⟩ : BufTy).Contents (Elt Ideal)) bitsLt_bf16_f32 := by
  have e : W4 m ρ c (Proc.devRef .tc main_arg3) = m ((c : Thread nD τ).loc main_arg3) := W4_args m ρ c main_arg3 (by decide)
  refine Eq.trans ?_ (congrArg (fun w => truncf .bf16 (F := Ideal) (φ := .f32) w bitsLt_bf16_f32) e)
  show StableHlo.after hostOps2 (W4 m ρ c) _ = _
  simp only [hostOps2]
  after_results_simp <;> rfl

theorem x_at (c : Dev nD) (p : Fin 256) (d : Fin 2048) : (V1 m ρ c main_v0 : (⟨S256x2048, .f32⟩ : BufTy).Contents (Elt Ideal)) (ix2 p d) = (m ((c : Thread nD τ).loc main_arg0) : (⟨S1x256x2048, .f32⟩ : BufTy).Contents (Elt Ideal)) (ix3 0 p d) := by
  rw [V_x]
  refine (shapeCast_apply _ shapeCasts_S1x256x2048_S256x2048 _ (ix3 0 p d) ?_)
  rw [Shape.rowMajor_val_three, Shape.rowMajor_val_two]
  show (0 * 256 + p.val) * 2048 + d.val = p.val * 2048 + d.val
  omega
theorem g_at (c : Dev nD) (d : Fin 2048) : (V1 m ρ c main_v1 : (⟨S1x2048, .f32⟩ : BufTy).Contents (Elt Ideal)) (ix2 0 d) = (m ((c : Thread nD τ).loc main_arg1) : (⟨S2048, .f32⟩ : BufTy).Contents (Elt Ideal)) (ix1 d) := by
  rw [V_g]
  refine (shapeCast_apply _ shapeCasts_S2048_S1x2048 _ (ix1 d) ?_)
  rw [Shape.rowMajor_val_one, Shape.rowMajor_val_two]
  show d.val = 0 * 2048 + d.val
  omega
theorem k_at (c : Dev nD) (d : Fin 2048) (j : Fin 512) : (V3 m ρ c main_v3 : (⟨S2048x512, .bf16⟩ : BufTy).Contents (Elt Ideal)) (ix2 d j) = (m ((c : Thread nD τ).loc main_arg2) : (⟨S2048x512, .f32⟩ : BufTy).Contents (Elt Ideal)) (ix2 d j) :=
  congrFun (V_k m ρ c) (ix2 d j)
theorem v_at (c : Dev nD) (d : Fin 2048) (j : Fin 512) : (V5 m ρ c main_v5 : (⟨S2048x512, .bf16⟩ : BufTy).Contents (Elt Ideal)) (ix2 d j) = (m ((c : Thread nD τ).loc main_arg3) : (⟨S2048x512, .f32⟩ : BufTy).Contents (Elt Ideal)) (ix2 d j) :=
  congrFun (V_v m ρ c) (ix2 d j)

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel
theorem index1_0 : ∀ t : Fin cfg1.N, win1_0.index t = ![0, 0] := by decide +kernel
theorem index1_1 : ∀ t : Fin cfg1.N, win1_1.index t = ![0, 0] := by decide +kernel
theorem index1_2 : ∀ t : Fin cfg1.N, win1_2.index t = ![0, 0] := by decide +kernel
theorem index2_0 : ∀ t : Fin cfg2.N, win2_0.index t = ![0, 0] := by decide +kernel
theorem index2_1 : ∀ t : Fin cfg2.N, win2_1.index t = ![0, 0] := by decide +kernel
theorem index2_2 : ∀ t : Fin cfg2.N, win2_2.index t = ![0, 0] := by decide +kernel

theorem blk0_0 (c : Dev nD) (t : Fin cfg0.N) (r : Fin 256) (d : Fin 2048) :
    (iblk0 (V1 m ρ) c 0 t : Vec Ideal S256x2048 .f32) (ix2 r d) = (m ((c : Thread nD τ).loc main_arg0) : (⟨S1x256x2048, .f32⟩ : BufTy).Contents (Elt Ideal)) (ix3 0 r d) := by
  refine Eq.trans ?_ (x_at m ρ c r d)
  refine congrArg (V1 m ρ c main_v0) (funext fun a => Fin.ext ?_)
  match a with
  | ⟨0, _⟩ => blk_simp [index0_0]
  | ⟨1, _⟩ => blk_simp [index0_0]
theorem blk0_1 (c : Dev nD) (t : Fin cfg0.N) (d : Fin 2048) :
    (iblk0 (V1 m ρ) c 1 t : Vec Ideal S1x2048 .f32) (ix2 0 d) = (m ((c : Thread nD τ).loc main_arg1) : (⟨S2048, .f32⟩ : BufTy).Contents (Elt Ideal)) (ix1 d) := by
  refine Eq.trans ?_ (g_at m ρ c d)
  refine congrArg (V1 m ρ c main_v1) (funext fun a => Fin.ext ?_)
  match a with
  | ⟨0, _⟩ => blk_simp [index0_1]
  | ⟨1, _⟩ => blk_simp [index0_1]

theorem final_h (c : Dev nD) : (dat0 (V1 m ρ) c).arrAt 2 cfg0.N = fun i : S256x2048.Idx => hrow (m ((c : Thread nD τ).loc main_arg0) : (⟨S1x256x2048, .f32⟩ : BufTy).Contents (Elt Ideal)) (m ((c : Thread nD τ).loc main_arg1) : (⟨S2048, .f32⟩ : BufTy).Contents (Elt Ideal)) (i 0) (i 1) := by
  refine (dat0 (V1 m ρ) c).arrAt_eq_of_covers 2 _ (by decide +kernel) fun t hf y => ?_
  blk_simp
  rw [after0_2]
  obtain ⟨r, d, hy⟩ : ∃ (r : Fin 256) (d : Fin 2048), y = ix2 r d := ⟨y 0, y 1, eq_ix2 y⟩
  subst hy
  have e : out0_2 (iblk0 (V1 m ρ) c 0 t) (iblk0 (V1 m ρ) c 1 t) = k0_pay1 (iblk0 (V1 m ρ) c 0 t) (iblk0 (V1 m ρ) c 1 t) := by
    frame_out
  rw [e]
  refine (norm_at _ _ r d).trans ((congrArg₂ (fun y g => FF.rms y g d) (funext fun k => blk0_0 m ρ c t r k) (funext fun k => blk0_1 m ρ c t k)).trans
    (congrArg₂ (fun p d => hrow (m ((c : Thread nD τ).loc main_arg0) : (⟨S1x256x2048, .f32⟩ : BufTy).Contents (Elt Ideal)) (m ((c : Thread nD τ).loc main_arg1) : (⟨S2048, .f32⟩ : BufTy).Contents (Elt Ideal)) p d) (Fin.ext ?_) (Fin.ext ?_)))
  · symm
    blk_simp [index0_2]
  · symm
    blk_simp [index0_2]

theorem h2 (c : Dev nD) : W2 m ρ c (Proc.devRef .tc main_v2) = fun i : S256x2048.Idx => hrow (m ((c : Thread nD τ).loc main_arg0) : (⟨S1x256x2048, .f32⟩ : BufTy).Contents (Elt Ideal)) (m ((c : Thread nD τ).loc main_arg1) : (⟨S2048, .f32⟩ : BufTy).Contents (Elt Ideal)) (i 0) (i 1) :=
  (W2_arr m ρ c 2).trans (final_h m ρ c)
theorem h3 (c : Dev nD) : W3 m ρ c (Proc.devRef .tc main_v2) = fun i : S256x2048.Idx => hrow (m ((c : Thread nD τ).loc main_arg0) : (⟨S1x256x2048, .f32⟩ : BufTy).Contents (Elt Ideal)) (m ((c : Thread nD τ).loc main_arg1) : (⟨S2048, .f32⟩ : BufTy).Contents (Elt Ideal)) (i 0) (i 1) :=
  (W3_of m ρ c main_v2 (by decide +kernel)).trans (h2 m ρ c)
theorem h5 (c : Dev nD) : W5 m ρ c (Proc.devRef .tc main_v2) = fun i : S256x2048.Idx => hrow (m ((c : Thread nD τ).loc main_arg0) : (⟨S1x256x2048, .f32⟩ : BufTy).Contents (Elt Ideal)) (m ((c : Thread nD τ).loc main_arg1) : (⟨S2048, .f32⟩ : BufTy).Contents (Elt Ideal)) (i 0) (i 1) :=
  (W5_of m ρ c main_v2 (by decide +kernel)).trans ((W4_of m ρ c main_v2 (by decide +kernel)).trans (h3 m ρ c))

theorem blk1_0 (c : Dev nD) (t : Fin cfg1.N) (r : Fin 256) (d : Fin 2048) :
    (iblk1 (V3 m ρ) c 0 t : Vec Ideal S256x2048 .bf16) (ix2 r d) = hrow (m ((c : Thread nD τ).loc main_arg0) : (⟨S1x256x2048, .f32⟩ : BufTy).Contents (Elt Ideal)) (m ((c : Thread nD τ).loc main_arg1) : (⟨S2048, .f32⟩ : BufTy).Contents (Elt Ideal)) r d := by
  refine Eq.trans ?_ (congrFun (h3 m ρ c) (ix2 r d))
  refine congrArg (V3 m ρ c main_v2) (funext fun a => Fin.ext ?_)
  match a with
  | ⟨0, _⟩ => blk_simp [index1_0]
  | ⟨1, _⟩ => blk_simp [index1_0]
theorem blk1_1 (c : Dev nD) (t : Fin cfg1.N) (d : Fin 2048) (j : Fin 512) :
    (iblk1 (V3 m ρ) c 1 t : Vec Ideal S2048x512 .bf16) (ix2 d j) = (m ((c : Thread nD τ).loc main_arg2) : (⟨S2048x512, .f32⟩ : BufTy).Contents (Elt Ideal)) (ix2 d j) := by
  refine Eq.trans ?_ (k_at m ρ c d j)
  refine congrArg (V3 m ρ c main_v3) (funext fun a => Fin.ext ?_)
  match a with
  | ⟨0, _⟩ => blk_simp [index1_1]
  | ⟨1, _⟩ => blk_simp [index1_1]
theorem blk2_0 (c : Dev nD) (t : Fin cfg2.N) (r : Fin 256) (d : Fin 2048) :
    (iblk2 (V5 m ρ) c 0 t : Vec Ideal S256x2048 .bf16) (ix2 r d) = hrow (m ((c : Thread nD τ).loc main_arg0) : (⟨S1x256x2048, .f32⟩ : BufTy).Contents (Elt Ideal)) (m ((c : Thread nD τ).loc main_arg1) : (⟨S2048, .f32⟩ : BufTy).Contents (Elt Ideal)) r d := by
  refine Eq.trans ?_ (congrFun (h5 m ρ c) (ix2 r d))
  refine congrArg (V5 m ρ c main_v2) (funext fun a => Fin.ext ?_)
  match a with
  | ⟨0, _⟩ => blk_simp [index2_0]
  | ⟨1, _⟩ => blk_simp [index2_0]
theorem blk2_1 (c : Dev nD) (t : Fin cfg2.N) (d : Fin 2048) (j : Fin 512) :
    (iblk2 (V5 m ρ) c 1 t : Vec Ideal S2048x512 .bf16) (ix2 d j) = (m ((c : Thread nD τ).loc main_arg3) : (⟨S2048x512, .f32⟩ : BufTy).Contents (Elt Ideal)) (ix2 d j) := by
  refine Eq.trans ?_ (v_at m ρ c d j)
  refine congrArg (V5 m ρ c main_v5) (funext fun a => Fin.ext ?_)
  match a with
  | ⟨0, _⟩ => blk_simp [index2_1]
  | ⟨1, _⟩ => blk_simp [index2_1]

theorem final_k (c : Dev nD) : (dat1 (V3 m ρ) c).arrAt 2 cfg1.N = Reference4Ideal.Read.val_main_v14 (F := Ideal) (m ((c : Thread nD τ).loc main_arg0) : (⟨S1x256x2048, .f32⟩ : BufTy).Contents (Elt Ideal)) (m ((c : Thread nD τ).loc main_arg1) : (⟨S2048, .f32⟩ : BufTy).Contents (Elt Ideal)) (m ((c : Thread nD τ).loc main_arg2) : (⟨S2048x512, .f32⟩ : BufTy).Contents (Elt Ideal)) := by
  refine (dat1 (V3 m ρ) c).arrAt_eq_of_covers 2 _ (by decide +kernel) fun t hf y => ?_
  blk_simp
  rw [after1_2]
  obtain ⟨r, j, hy⟩ : ∃ (r : Fin 256) (j : Fin 512), y = ix2 r j := ⟨y 0, y 1, eq_ix2 y⟩
  subst hy
  have e : out1_2 (iblk1 (V3 m ρ) c 0 t) (iblk1 (V3 m ρ) c 1 t) = k1_pay1 (iblk1 (V3 m ρ) c 0 t) (iblk1 (V3 m ρ) c 1 t) := by
    frame_out
  rw [e]
  refine (key_at _ _ r j).trans (Eq.trans ?_ ((ref_k (m ((c : Thread nD τ).loc main_arg0) : (⟨S1x256x2048, .f32⟩ : BufTy).Contents (Elt Ideal)) (m ((c : Thread nD τ).loc main_arg1) : (⟨S2048, .f32⟩ : BufTy).Contents (Elt Ideal)) (m ((c : Thread nD τ).loc main_arg2) : (⟨S2048x512, .f32⟩ : BufTy).Contents (Elt Ideal)) r j).symm.trans (congrArg _ (funext fun a => Fin.ext ?_))))
  · unfold proj
    refine Finset.sum_congr rfl fun d _ => ?_
    rw [blk1_0, blk1_1]
  · match a with
    | ⟨0, _⟩ => blk_simp [index1_2]
    | ⟨1, _⟩ => blk_simp [index1_2]

theorem final_v (c : Dev nD) : (dat2 (V5 m ρ) c).arrAt 2 cfg2.N = Reference4Ideal.Read.val_main_v16 (F := Ideal) (m ((c : Thread nD τ).loc main_arg0) : (⟨S1x256x2048, .f32⟩ : BufTy).Contents (Elt Ideal)) (m ((c : Thread nD τ).loc main_arg1) : (⟨S2048, .f32⟩ : BufTy).Contents (Elt Ideal)) (m ((c : Thread nD τ).loc main_arg3) : (⟨S2048x512, .f32⟩ : BufTy).Contents (Elt Ideal)) := by
  refine (dat2 (V5 m ρ) c).arrAt_eq_of_covers 2 _ (by decide +kernel) fun t hf y => ?_
  blk_simp
  rw [after2_2]
  obtain ⟨r, j, hy⟩ : ∃ (r : Fin 256) (j : Fin 512), y = ix2 r j := ⟨y 0, y 1, eq_ix2 y⟩
  subst hy
  have e : out2_2 (iblk2 (V5 m ρ) c 0 t) (iblk2 (V5 m ρ) c 1 t) = k2_pay1 (iblk2 (V5 m ρ) c 0 t) (iblk2 (V5 m ρ) c 1 t) := by
    frame_out
  rw [e]
  refine (value_at _ _ r j).trans (Eq.trans ?_ ((ref_v (m ((c : Thread nD τ).loc main_arg0) : (⟨S1x256x2048, .f32⟩ : BufTy).Contents (Elt Ideal)) (m ((c : Thread nD τ).loc main_arg1) : (⟨S2048, .f32⟩ : BufTy).Contents (Elt Ideal)) (m ((c : Thread nD τ).loc main_arg3) : (⟨S2048x512, .f32⟩ : BufTy).Contents (Elt Ideal)) r j).symm.trans (congrArg _ (funext fun a => Fin.ext ?_))))
  · unfold proj
    refine Finset.sum_congr rfl fun d _ => ?_
    rw [blk2_0, blk2_1]
  · match a with
    | ⟨0, _⟩ => blk_simp [index2_2]
    | ⟨1, _⟩ => blk_simp [index2_2]

/-- Both runs end at the same two results. -/
theorem algebraic : Cert.algebraic_Kernel4Ideal_Reference4Ideal := by
  intro m g m' g' _ hargs
  refine ⟨fun c => Reference4Ideal.Read.val_main_v14 (F := Ideal) (m ((c : Thread nD τ).loc main_arg0) : (⟨S1x256x2048, .f32⟩ : BufTy).Contents (Elt Ideal)) (m ((c : Thread nD τ).loc main_arg1) : (⟨S2048, .f32⟩ : BufTy).Contents (Elt Ideal)) (m ((c : Thread nD τ).loc main_arg2) : (⟨S2048x512, .f32⟩ : BufTy).Contents (Elt Ideal)), fun c => Reference4Ideal.Read.val_main_v16 (F := Ideal) (m ((c : Thread nD τ).loc main_arg0) : (⟨S1x256x2048, .f32⟩ : BufTy).Contents (Elt Ideal)) (m ((c : Thread nD τ).loc main_arg1) : (⟨S2048, .f32⟩ : BufTy).Contents (Elt Ideal)) (m ((c : Thread nD τ).loc main_arg3) : (⟨S2048x512, .f32⟩ : BufTy).Contents (Elt Ideal)), ?_, ?_⟩
  · refine (θ_run defs _ _).mono (fun r h c => ⟨(h c).1.trans ?_, (h c).2.1.trans ?_, (h c).2.2⟩) (run_values m g)
    · exact (W6_of m g c main_v4 (by decide +kernel)).trans ((W5_of m g c main_v4 (by decide +kernel)).trans ((W4_arr m g c 2).trans (final_k m g c)))
    · exact (W6_arr m g c 2).trans (final_v m g c)
  · refine (θ_run Reference4Ideal.defs _ _).mono (fun r h c => ⟨(h c).1.trans ?_, (h c).2.1.trans ?_, (h c).2.2⟩) (Reference4Ideal.Value.run (F := Ideal) m' g')
    · obtain ⟨h0, h1, h2, h3⟩ := hargs c
      rw [Reference4Ideal.Read.val_main_v14_eq, h0, h1, h2]
    · obtain ⟨h0, h1, h2, h3⟩ := hargs c
      rw [Reference4Ideal.Read.val_main_v16_eq, h0, h1, h3]

end Cert.Proof.MM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.SB.Frames
public import proofs.«01_k».proof.Proof.SB.Value
public import proofs.«01_k».proof.Proof.FF.Frames
public import proofs.«01_k».proof.Proof.FF.Value
public import proofs.«01_k».proof.Proof.PJ.Frames
public import proofs.«01_k».proof.Proof.PJ.Value
public import proofs.«01_k».proof.Proof.Gen.Kernel5
public import proofs.«01_k».proof.Proof.Gen.Kernel5.Frame
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.MG.Frames
public import proofs.«01_k».proof.Proof.MG.Value
public import proofs.«01_k».proof.Proof.MM.Frames
public import proofs.«01_k».proof.Proof.MM.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  SB.frame_kernel, SB.frame_ideal, SB.frame_reference, FF.frame_kernel, FF.frame_ideal, FF.frame_reference,
  PJ.frame_kernel, PJ.frame_ideal, PJ.frame_reference, MM.frame_kernel, MM.frame_ideal, MM.frame_reference,
  MG.frame_kernel, MG.frame_ideal, MG.frame_reference,
  SB.preserves, SB.algebraic, FF.preserves, FF.algebraic, PJ.preserves, PJ.algebraic, MM.preserves, MM.algebraic, MG.preserves, MG.algebraic⟩

end Cert.Proof

end
